-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24_0) = v0 c
          ∧ r.2.mem ((c.tc : Thread Cert.ReferenceIdeal.nD Cert.ReferenceIdeal.τ).loc Cert.ReferenceIdeal.main_v24_1) = v1 c
          ∧ r.2.mem ((c.tc : Thread Cert.ReferenceIdeal.nD Cert.ReferenceIdeal.τ).loc Cert.ReferenceIdeal.main_v24_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S4x4096x3584 : Shape := ⟨3, ![4, 4096, 3584]⟩
abbrev S128 : Shape := ⟨1, ![128]⟩
abbrev S128x896 : Shape := ⟨2, ![128, 896]⟩
abbrev S3584x896 : Shape := ⟨2, ![3584, 896]⟩
abbrev S28x7 : Shape := ⟨2, ![28, 7]⟩
abbrev S128x1 : Shape := ⟨2, ![128, 1]⟩
abbrev S1x128 : Shape := ⟨2, ![1, 128]⟩
abbrev S128x128 : Shape := ⟨2, ![128, 128]⟩
abbrev S_ : Shape := ⟨0, ![]⟩

class Facts : Prop where
  shapeCasts_S128_S128x1 : S128.ShapeCasts S128x1
  shapeCasts_S128_S1x128 : S128.ShapeCasts S1x128
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  reducesTo_S128x128_S_d0_1 : S128x128.ReducesTo [0, 1] S_
  h_S_ : 0 < S_.numel
  bcast_S_S4x4096x3584 : S_.BroadcastsInDim S4x4096x3584 (![] : Fin 0 → Fin S4x4096x3584.rank)
  reducesTo_S4x4096x3584_S_d0_1_2 : S4x4096x3584.ReducesTo [0, 1, 2] S_
  bcast_S_S128 : S_.BroadcastsInDim S128 (![] : Fin 0 → Fin S128.rank)
  reducesTo_S128_S_d0 : S128.ReducesTo [0] S_

variable [Facts]

def fn_part1 {F : FTy → Type} [FloatOps F] (main_v10 : IVec S_ 1) (main_v18 : IVec S_ 1) : IVec S_ 1 :=
  let main_v19 : IVec S_ 1 := andi main_v18 main_v10
  main_v19

def fn {F : FTy → Type} [FloatOps F] (main_arg0 : FVec F S4x4096x3584 .bf16) (main_arg1 : IVec S128 32) (main_arg2 : FVec F S128x896 .bf16) (main_arg3 : FVec F S3584x896 .fp8e4m3) (main_arg4 : FVec F S28x7 .f32) : IVec S_ 1 :=
  let main_v0 : IVec S128x1 32 := shapeCast S128x1 main_arg1 shapeCasts_S128_S128x1
  let main_v1 : IVec S1x128 32 := shapeCast S1x128 main_arg1 shapeCasts_S128_S1x128
  let main_v2 : IVec S128x128 32 := broadcastInDim S128x128 ![0, 1] bcast_S128x1_S128x128_0_1 main_v0
  let main_v3 : IVec S128x128 32 := broadcastInDim S128x128 ![0, 1] bcast_S1x128_S128x128_0_1 main_v1
  let main_v4 : IVec S128x128 1 := cmpi .eq main_v2 main_v3
  let main_v5 : IVec S128x128 32 := iotaInDim S128x128 32 0
  let main_v6 : IVec S128x128 32 := iotaInDim S128x128 32 1
  let main_v7 : IVec S128x128 1 := cmpi .eq main_v5 main_v6
  let main_v8 : IVec S128x128 1 := noti main_v4
  let main_v9 : IVec S128x128 1 := ori main_v8 main_v7
  let main_c : IVec S_ 1 := constantI S_ 1 1#1
  let main_v10 : IVec S_ 1 := (fun x v => Host.reduce IntOp.andi x v reducesTo_S128x128_S_d0_1 h_S_) main_v9 main_c
  let main_v11 : FVec F S4x4096x3584 .bf16 := Host.absf main_arg0
  let main_cst : FVec F S_ .bf16 := constant S_ .bf16 0x7F7F#16
  let main_v12 : FVec F S4x4096x3584 .bf16 := broadcastInDim S4x4096x3584 ![] bcast_S_S4x4096x3584 main_cst
  let main_v13 : IVec S4x4096x3584 1 := cmpf .ole main_v11 main_v12
  let main_c_0 : IVec S_ 1 := constantI S_ 1 1#1
  let main_v14 : IVec S_ 1 := (fun x v => Host.reduce IntOp.andi x v reducesTo_S4x4096x3584_S_d0_1_2 h_S_) main_v13 main_c_0
  let main_c_1 : IVec S_ 32 := constantI S_ 32 0#32
  let main_v15 : IVec S128 32 := broadcastInDim S128 ![] bcast_S_S128 main_c_1
  let main_v16 : IVec S128 1 := cmpi .sge main_arg1 main_v15
  let main_c_2 : IVec S_ 1 := constantI S_ 1 1#1
  let main_v17 : IVec S_ 1 := (fun x v => Host.reduce IntOp.andi x v reducesTo_S128_S_d0 h_S_) main_v16 main_c_2
  let main_v18 : IVec S_ 1 := andi main_v14 main_v17
  fn_part1 (F := F) main_v10 main_v18
-- ==== Kernel.lean ====
abbrev S4x4096x3584 : Shape := ⟨3, ![4, 4096, 3584]⟩
abbrev S128 : Shape := ⟨1, ![128]⟩
abbrev S128x896 : Shape := ⟨2, ![128, 896]⟩
abbrev S3584x896 : Shape := ⟨2, ![3584, 896]⟩
abbrev S28x7 : Shape := ⟨2, ![28, 7]⟩
abbrev S128x1 : Shape := ⟨2, ![128, 1]⟩
abbrev S16384x3584 : Shape := ⟨2, ![16384, 3584]⟩
abbrev S16384x896 : Shape := ⟨2, ![16384, 896]⟩
abbrev S16384x28 : Shape := ⟨2, ![16384, 28]⟩
abbrev S256x3584 : Shape := ⟨2, ![256, 3584]⟩
abbrev S256x896 : Shape := ⟨2, ![256, 896]⟩
abbrev S256x28 : Shape := ⟨2, ![256, 28]⟩
abbrev S896x3584 : Shape := ⟨2, ![896, 3584]⟩
abbrev S1x3584 : Shape := ⟨2, ![1, 3584]⟩
abbrev S128x256 : Shape := ⟨2, ![128, 256]⟩
abbrev S256 : Shape := ⟨1, ![256]⟩
abbrev S1x256 : Shape := ⟨2, ![1, 256]⟩
abbrev S896x256 : Shape := ⟨2, ![896, 256]⟩
abbrev S128x128 : Shape := ⟨2, ![128, 128]⟩
abbrev S1x1 : Shape := ⟨2, ![1, 1]⟩
abbrev S1x128 : Shape := ⟨2, ![1, 128]⟩
abbrev S256x128 : Shape := ⟨2, ![256, 128]⟩
abbrev S256x1 : Shape := ⟨2, ![256, 1]⟩

abbrev nBuf : Space → Nat
  | .hbm => 10
  | .vmem => 14
  | .smem => 1
  | _ => 0

abbrev bufTy : (tb : Table) → Fin (tcTables nBuf tb) → BufTy
  | .hbm, ⟨0, _⟩ => ⟨S4x4096x3584, .bf16⟩
  | .hbm, ⟨1, _⟩ => ⟨S128, .i32⟩
  | .hbm, ⟨2, _⟩ => ⟨S128x896, .bf16⟩
  | .hbm, ⟨3, _⟩ => ⟨S3584x896, .fp8e4m3⟩
  | .hbm, ⟨4, _⟩ => ⟨S28x7, .f32⟩
  | .hbm, ⟨5, _⟩ => ⟨S128x1, .i32⟩
  | .hbm, ⟨6, _⟩ => ⟨S16384x3584, .bf16⟩
  | .hbm, ⟨7, _⟩ => ⟨S16384x896, .bf16⟩
  | .hbm, ⟨8, _⟩ => ⟨S16384x3584, .fp8e4m3⟩
  | .hbm, ⟨9, _⟩ => ⟨S16384x28, .f32⟩
  | .local _ .vmem, ⟨0, _⟩ => ⟨S128x1, .i32⟩
  | .local _ .vmem, ⟨1, _⟩ => ⟨S128x896, .bf16⟩
  | .local _ .vmem, ⟨2, _⟩ => ⟨S3584x896, .fp8e4m3⟩
  | .local _ .vmem, ⟨3, _⟩ => ⟨S256x3584, .bf16⟩
  | .local _ .vmem, ⟨4, _⟩ => ⟨S256x3584, .bf16⟩
  | .local _ .vmem, ⟨5, _⟩ => ⟨S256x896, .bf16⟩
  | .local _ .vmem, ⟨6, _⟩ => ⟨S256x896, .bf16⟩
  | .local _ .vmem, ⟨7, _⟩ => ⟨S256x3584, .fp8e4m3⟩
  | .local _ .vmem, ⟨8, _⟩ => ⟨S256x3584, .fp8e4m3⟩
  | .local _ .vmem, ⟨9, _⟩ => ⟨S256x28, .f32⟩
  | .local _ .vmem, ⟨10, _⟩ => ⟨S256x28, .f32⟩
  | .local _ .vmem, ⟨11, _⟩ => ⟨S896x3584, .bf16⟩
  | .local _ .vmem, ⟨12, _⟩ => ⟨S1x3584, .f32⟩
  | .local _ .vmem, ⟨13, _⟩ => ⟨S256x3584, .bf16⟩
  | .local _ .smem, ⟨0, _⟩ => ⟨S28x7, .f32⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x896 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3584x896 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S28x7 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x3584 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x3584 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x28 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S4x4096x3584 : Shape := ⟨3, ![4, 4096, 3584]⟩
abbrev S128 : Shape := ⟨1, ![128]⟩
abbrev S128x896 : Shape := ⟨2, ![128, 896]⟩
abbrev S3584x896 : Shape := ⟨2, ![3584, 896]⟩
abbrev S28x7 : Shape := ⟨2, ![28, 7]⟩
abbrev S_ : Shape := ⟨0, ![]⟩
abbrev S1x1x3584 : Shape := ⟨3, ![1, 1, 3584]⟩
abbrev S128x1 : Shape := ⟨2, ![128, 1]⟩
abbrev S128x3 : Shape := ⟨2, ![128, 3]⟩
abbrev S16384x896 : Shape := ⟨2, ![16384, 896]⟩
abbrev S16384x3584 : Shape := ⟨2, ![16384, 3584]⟩
abbrev S16384x28 : Shape := ⟨2, ![16384, 28]⟩
abbrev S4x4096x28x128 : Shape := ⟨4, ![4, 4096, 28, 128]⟩
abbrev S4x4096x28 : Shape := ⟨3, ![4, 4096, 28]⟩
abbrev S4x4096x28x1 : Shape := ⟨4, ![4, 4096, 28, 1]⟩
abbrev S28x128x7x128 : Shape := ⟨4, ![28, 128, 7, 128]⟩
abbrev S28x1x7x1 : Shape := ⟨4, ![28, 1, 7, 1]⟩
abbrev S3584x1 : Shape := ⟨2, ![3584, 1]⟩
abbrev S4x4096x896 : Shape := ⟨3, ![4, 4096, 896]⟩

abbrev nBuf : Space → Nat
  | .hbm => 41
  | .vmem => 8
  | .smem => 0
  | _ => 0

abbrev bufTy : (tb : Table) → Fin (tcTables nBuf tb) → BufTy
  | .hbm, ⟨0, _⟩ => ⟨S4x4096x3584, .bf16⟩
  | .hbm, ⟨1, _⟩ => ⟨S128, .i32⟩
  | .hbm, ⟨2, _⟩ => ⟨S128x896, .bf16⟩
  | .hbm, ⟨3, _⟩ => ⟨S3584x896, .fp8e4m3⟩
  | .hbm, ⟨4, _⟩ => ⟨S28x7, .f32⟩
  | .hbm, ⟨5, _⟩ => ⟨S_, .i32⟩
  | .hbm, ⟨6, _⟩ => ⟨S1x1x3584, .i32⟩
  | .hbm, ⟨7, _⟩ => ⟨S_, .i32⟩
  | .hbm, ⟨8, _⟩ => ⟨S128, .i32⟩
  | .hbm, ⟨9, _⟩ => ⟨S128, .i1⟩
  | .hbm, ⟨10, _⟩ => ⟨S_, .i32⟩
  | .hbm, ⟨11, _⟩ => ⟨S128, .i32⟩
  | .hbm, ⟨12, _⟩ => ⟨S128, .i32⟩
  | .hbm, ⟨13, _⟩ => ⟨S128, .i32⟩
  | .hbm, ⟨14, _⟩ => ⟨S_, .i32⟩
  | .hbm, ⟨15, _⟩ => ⟨S128, .i32⟩
  | .hbm, ⟨16, _⟩ => ⟨S_, .i32⟩
  | .hbm, ⟨17, _⟩ => ⟨S128, .i32⟩
  | .hbm, ⟨18, _⟩ => ⟨S128, .i32⟩
  | .hbm, ⟨19, _⟩ => ⟨S128, .i32⟩
  | .hbm, ⟨20, _⟩ => ⟨S128x1, .i32⟩
  | .hbm, ⟨21, _⟩ => ⟨S128x1, .i32⟩
  | .hbm, ⟨22, _⟩ => ⟨S128x1, .i32⟩
  | .hbm, ⟨23, _⟩ => ⟨S128x3, .i32⟩
  | .hbm, ⟨24, _⟩ => ⟨S_, .i32⟩
  | .hbm, ⟨25, _⟩ => ⟨S128, .i32⟩
  | .hbm, ⟨26, _⟩ => ⟨S1x1x3584, .i32⟩
  | .hbm, ⟨27, _⟩ => ⟨S_, .bf16⟩
  | .hbm, ⟨28, _⟩ => ⟨S3584x896, .bf16⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S128x1, .i32⟩
  | .hbm, ⟨37, _⟩ => ⟨S3584x896, .bf16⟩
  | .hbm, ⟨38, _⟩ => ⟨S16384x896, .bf16⟩
  | .hbm, ⟨39, _⟩ => ⟨S16384x3584, .fp8e4m3⟩
  | .hbm, ⟨40, _⟩ => ⟨S16384x28, .f32⟩
  | .local _ .vmem, ⟨0, _⟩ => ⟨S4x4096x3584, .bf16⟩
  | .local _ .vmem, ⟨1, _⟩ => ⟨S1x1x3584, .i32⟩
  | .local _ .vmem, ⟨2, _⟩ => ⟨S3584x896, .bf16⟩
  | .local _ .vmem, ⟨3, _⟩ => ⟨S3584x896, .fp8e4m3⟩
  | .local _ .vmem, ⟨4, _⟩ => ⟨S28x7, .f32⟩
  | .local _ .vmem, ⟨5, _⟩ => ⟨S16384x896, .bf16⟩
  | .local _ .vmem, ⟨6, _⟩ => ⟨S16384x3584, .fp8e4m3⟩
  | .local _ .vmem, ⟨7, _⟩ => ⟨S16384x28, .f32⟩
  | _, _ => ⟨S4x4096x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_c_0 : Ref sig .tc := ⟨.hbm, 7, rfl⟩
abbrev main_v1 : Ref sig .tc := ⟨.hbm, 8, rfl⟩
abbrev main_v2 : Ref sig .tc := ⟨.hbm, 9, rfl⟩
abbrev main_c_1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_c_3 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_4 : Ref sig .tc := ⟨.hbm, 24, rfl⟩
abbrev main_v14 : Ref sig .tc := ⟨.hbm, 25, rfl⟩
abbrev main_v15 : Ref sig .tc := ⟨.hbm, 26, rfl⟩
abbrev main_cst : Ref sig .tc := ⟨.hbm, 27, rfl⟩
abbrev main_v16 : Ref sig .tc := ⟨.hbm, 28, rfl⟩
abbrev main_c_5 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24_0 : Ref sig .tc := ⟨.hbm, 38, rfl⟩
abbrev main_v24_1 : Ref sig .tc := ⟨.hbm, 39, rfl⟩
abbrev main_v24_2 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_fp8_max" => some ((1 / 448 : ℝ) : EReal)
  | _ => none

abbrev grid0 : Pipeline.Grid := .none

abbrev stage0_0 : Fin 1 → Memref sig .tc .vmem S4x4096x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1x3584 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x896 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3584x896 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S28x7 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x896 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16384x28 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Words.lean ====
/- The exponent words of the kernel's quantiser, and the scale that they give, over the extended reals. -/
module

public import Idealize.ShloMosaic.PureOps.Ideal
public import Idealize.ShloMosaic.PureOps.Ideal.Laws
public import Idealize.ShloMosaic.Lib.IdealHost

@[expose] public section

noncomputable section

namespace Cert.Words

open Idealize.ShloMosaic

/-- The float of the word `n · 2^23 − ROUND_UP`: what a maximum is compared with when the words are found. -/
def thr (n : ℕ) : EReal := Ideal.ofBits .f32 (BitVec.ofNat 32 (n * 2 ^ 23) - 2097152#32)

/-- One step of the search for the exponent word: bit `c` is set when `a` reaches the float of the trial word
    less ROUND_UP. -/
def stepW (a : EReal) (c w : BitVec 32) : BitVec 32 :=
  Scalar.select (Ideal.cmp .oge a (Ideal.ofBits .f32 (w + c - 2097152#32))) (w + c) w

/-- The same step on the number of the word. -/
def stepN (a : EReal) (k n : ℕ) : ℕ := if thr (n + 2 ^ k) ≤ a then n + 2 ^ k else n

/-- The exponent word of `a`, found bit by bit. -/
def word (a : EReal) : BitVec 32 :=
  stepW a 8388608#32 (stepW a 16777216#32 (stepW a 33554432#32 (stepW a 67108864#32
    (stepW a 134217728#32 (stepW a 268435456#32 (stepW a 536870912#32 (stepW a 1073741824#32 0#32)))))))

/-- The number of the exponent word of `a`. -/
def num (a : EReal) : ℕ :=
  stepN a 0 (stepN a 1 (stepN a 2 (stepN a 3 (stepN a 4 (stepN a 5 (stepN a 6 (stepN a 7 0)))))))

/-- A selection by `a ≥ b` is the choice by the order. -/
theorem sel_oge (a b : EReal) (x y : BitVec 32) : Scalar.select (Ideal.cmp .oge a b) x y = if b ≤ a then x else y := by
  by_cases h : b ≤ a <;> simp [Scalar.select, Ideal.cmp, h]

/-- A selection by `a < b` is the choice by the order. -/
theorem sel_olt {α : Type} (a b : EReal) (x y : α) : Scalar.select (Ideal.cmp .olt a b) x y = if a < b then x else y := by
  by_cases h : a < b <;> simp [Scalar.select, Ideal.cmp, h]

/-- A step on words is the step on numbers. -/
theorem stepW_eq (a : EReal) (k n : ℕ) :
    stepW a (BitVec.ofNat 32 (2 ^ k * 2 ^ 23)) (BitVec.ofNat 32 (n * 2 ^ 23)) = BitVec.ofNat 32 (stepN a k n * 2 ^ 23) := by
  have hadd : BitVec.ofNat 32 (n * 2 ^ 23) + BitVec.ofNat 32 (2 ^ k * 2 ^ 23) = BitVec.ofNat 32 ((n + 2 ^ k) * 2 ^ 23) := by
    rw [← BitVec.ofNat_add, add_mul]
  unfold stepW stepN
  rw [hadd]
  rw [sel_oge]
  change (if thr (n + 2 ^ k) ≤ a then _ else _) = _
  split_ifs <;> rfl

/-- The exponent word is its number, shifted to the exponent's place. -/
theorem word_eq (a : EReal) : word a = BitVec.ofNat 32 (num a * 2 ^ 23) := by
  unfold word num
  have h (k n : ℕ) (c : BitVec 32) (hc : c = BitVec.ofNat 32 (2 ^ k * 2 ^ 23)) :
      stepW a c (BitVec.ofNat 32 (n * 2 ^ 23)) = BitVec.ofNat 32 (stepN a k n * 2 ^ 23) := by
    rw [hc]; exact stepW_eq a k n
  have h0 : (0#32) = BitVec.ofNat 32 (0 * 2 ^ 23) := by simp
  rw [h0, h 7 _ _ (by rfl), h 6 _ _ (by rfl), h 5 _ _ (by rfl), h 4 _ _ (by rfl), h 3 _ _ (by rfl), h 2 _ _ (by rfl),
    h 1 _ _ (by rfl), h 0 _ _ (by rfl)]

/-- What the search keeps: the word found is reached, the word one step above is not. -/
def Inv (a : EReal) (k n : ℕ) : Prop :=
  n + 2 ^ k ≤ 256 ∧ (n = 0 ∨ thr n ≤ a) ∧ (n + 2 ^ k = 256 ∨ a < thr (n + 2 ^ k))

/-- A step keeps what the search keeps. -/
theorem Inv.step {a : EReal} {k n : ℕ} (h : Inv a (k + 1) n) : Inv a k (stepN a k n) := by
  obtain ⟨h1, h2, h3⟩ := h
  have hk : 2 ^ (k + 1) = 2 ^ k + 2 ^ k := by rw [pow_succ]; omega
  unfold stepN
  split
  · next h =>
    refine ⟨by omega, .inr h, ?_⟩
    rw [add_assoc, ← hk]; exact h3
  · next h => exact ⟨by have := Nat.pos_of_ne_zero (pow_ne_zero k (two_ne_zero : (2:ℕ) ≠ 0)); omega, h2, .inr (not_le.mp h)⟩

/-- The number of the word of `a`: reached, and the next one is not. -/
theorem num_inv (a : EReal) : Inv a 0 (num a) := by
  unfold num
  exact (((((((Inv.step (k := 7) ⟨by norm_num, .inl rfl, .inl (by norm_num)⟩).step).step).step).step).step).step).step

/-- A positive normal word: its fraction and exponent give its value. -/
theorem ofBits_norm (w : BitVec 32) (ex fr : ℕ) (hw : w.toNat = ex * 8388608 + fr) (hfr : fr < 8388608) (h1 : 1 ≤ ex)
    (h2 : ex ≤ 254) : Ideal.ofBits .f32 w = (((8388608 + (fr : ℝ)) * (2 : ℝ) ^ ((ex : ℤ) - 150) : ℝ) : EReal) := by
  have hneg : (w.extractLsb' (8 + 23) 1 == 1#1) = false := by
    rw [beq_eq_false_iff_ne]
    intro h
    have := congrArg BitVec.toNat h
    rw [BitVec.extractLsb'_toNat, Nat.shiftRight_eq_div_pow, hw] at this
    norm_num at this
    omega
  have hex : (w.extractLsb' 23 8).toNat = ex := by
    rw [BitVec.extractLsb'_toNat, Nat.shiftRight_eq_div_pow, hw]
    norm_num
    omega
  have hf : (w.extractLsb' 0 23).toNat = fr := by
    rw [BitVec.extractLsb'_toNat, Nat.shiftRight_eq_div_pow, hw]
    norm_num
    omega
  have hi : Ideal.ofBits .f32 w = Ideal.ieee 8 23 w := rfl
  rw [hi]
  unfold Ideal.ieee
  simp only [hneg, hex, hf]
  rw [if_neg (by omega), if_neg (by omega)]
  have e : (ex : ℤ) - (2 ^ (8 - 1) - 1) - (23 : ℕ) = (ex : ℤ) - 150 := by norm_num; ring
  rw [e]
  norm_num

/-- The word of the number `n`, as a number. -/
theorem toNat_shift (n : ℕ) (h : n ≤ 255) : (BitVec.ofNat 32 (n * 2 ^ 23)).toNat = n * 8388608 := by
  rw [BitVec.toNat_ofNat]
  norm_num
  omega

/-- A trial word less ROUND_UP, as a number. -/
theorem toNat_thr (n : ℕ) (h1 : 2 ≤ n) (h2 : n ≤ 255) : (BitVec.ofNat 32 (n * 2 ^ 23) - 2097152#32).toNat = (n - 1) * 8388608 + 6291456 := by
  rw [BitVec.toNat_sub, toNat_shift n h2, BitVec.toNat_ofNat]
  norm_num
  omega

/-- The word of a scale, as a number. -/
theorem toNat_sc (n : ℕ) (h1 : 10 ≤ n) (h2 : n ≤ 255) : (BitVec.ofNat 32 (n * 2 ^ 23) - 67108864#32).toNat = (n - 8) * 8388608 := by
  rw [BitVec.toNat_sub, toNat_shift n h2, BitVec.toNat_ofNat]
  norm_num
  omega

/-- The word of an inverse scale, as a number. -/
theorem toNat_in (n : ℕ) (h1 : 10 ≤ n) (h2 : n ≤ 255) : (2130706432#32 - (BitVec.ofNat 32 (n * 2 ^ 23) - 67108864#32)).toNat = (262 - n) * 8388608 := by
  rw [BitVec.toNat_sub, toNat_sc n h1 h2, BitVec.toNat_ofNat]
  norm_num
  omega

/-- A threshold as a real number: `448 · 2^(n − 136)`. -/
theorem thr_eq (n : ℕ) (h1 : 2 ≤ n) (h2 : n ≤ 255) : thr n = ((448 * (2 : ℝ) ^ ((n : ℤ) - 136) : ℝ) : EReal) := by
  unfold thr
  rw [ofBits_norm _ (n - 1) 6291456 (toNat_thr n h1 h2) (by norm_num) (by omega) (by omega), EReal.coe_eq_coe_iff]
  have e : (n : ℤ) - 136 = ((n - 1 : ℕ) : ℤ) - 150 + 15 := by omega
  rw [e, zpow_add₀ (by norm_num)]
  generalize (2 : ℝ) ^ (((n - 1 : ℕ) : ℤ) - 150) = q
  norm_num
  ring

/-- A word with exponent `n` and no fraction is `2^(n − 127)`. -/
theorem ofBits_pow (n : ℕ) (h1 : 1 ≤ n) (h2 : n ≤ 254) (w : BitVec 32) (hw : w.toNat = n * 8388608) :
    Ideal.ofBits .f32 w = (((2 : ℝ) ^ ((n : ℤ) - 127) : ℝ) : EReal) := by
  rw [ofBits_norm w n 0 (by rw [hw, Nat.add_zero]) (by norm_num) h1 h2, EReal.coe_eq_coe_iff]
  have e : (n : ℤ) - 127 = (n : ℤ) - 150 + 23 := by ring
  rw [e, zpow_add₀ (by norm_num)]
  generalize (2 : ℝ) ^ ((n : ℤ) - 150) = q
  norm_num
  ring

/-- The maximum that is quantised: one below the smallest scale is replaced by 256. -/
def lifted (a : EReal) : EReal :=
  Scalar.select (Ideal.cmp .olt a (Ideal.ofBits .bf16 0x04E0#16)) (Ideal.ofBits .bf16 0x4380#16) a

/-- The kernel's scale of a block with maximum `a`. -/
def kScale (a : EReal) : EReal := Ideal.ofBits .f32 (word (lifted a) - 67108864#32)

/-- The kernel's inverse scale of a block with maximum `a`. -/
def kInv (a : EReal) : EReal := Ideal.ofBits .f32 (2130706432#32 - (word (lifted a) - 67108864#32))

/-- The exponent of the scale as the reference writes it: `floor(log₂(a / 448)) + 1`, and 0 for a maximum whose
    quotient is below the smallest normal number. -/
def rExp (a : EReal) : EReal :=
  Scalar.select (Ideal.cmp .olt (a * ((1 / 448 : ℝ) : EReal)) (Ideal.ofBits .f32 0x00800000#32)) (Ideal.ofBits .f32 0#32)
    (Ideal.liftRound Int.floor (Ideal.div (Ideal.log (a * ((1 / 448 : ℝ) : EReal))) (Ideal.log (Ideal.ofBits .f32 0x40000000#32)))
      + Ideal.ofBits .f32 0x3F800000#32)

theorem ofBits_tiny : Ideal.ofBits .bf16 0x04E0#16 = ((448 * (2 : ℝ) ^ (-126 : ℤ) : ℝ) : EReal) := by
  simp [Ideal.ofBits, Ideal.ieee, -EReal.coe_mul]; norm_num

theorem ofBits_256 : Ideal.ofBits .bf16 0x4380#16 = ((256 : ℝ) : EReal) := by
  simp [Ideal.ofBits, Ideal.ieee, -EReal.coe_mul]; norm_num

theorem ofBits_minNormal : Ideal.ofBits .f32 0x00800000#32 = (((2 : ℝ) ^ (-126 : ℤ) : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_bf16Max : Ideal.ofBits .bf16 0x7F7F#16 = (((2 : ℝ) ^ 128 - 2 ^ 120 : ℝ) : EReal) := by
  simp [Ideal.ofBits, Ideal.ieee, -EReal.coe_mul, -EReal.coe_sub, -EReal.coe_pow]; norm_num

/-- The number of the word of a maximum in the range of the quantiser, read off the two thresholds about it. -/
theorem num_spec (r : ℝ) (h1 : 448 * (2 : ℝ) ^ (-126 : ℤ) ≤ r) (h2 : r ≤ 2 ^ 128 - 2 ^ 120) :
    10 ≤ num (r : EReal) ∧ num (r : EReal) ≤ 255
      ∧ (2 : ℝ) ^ ((num (r : EReal) : ℤ) - 136) ≤ r * (1 / 448) ∧ r * (1 / 448) < (2 : ℝ) ^ ((num (r : EReal) : ℤ) - 135) := by
  obtain ⟨hle, hlo, hhi⟩ := num_inv (r : EReal)
  generalize num (r : EReal) = n at *
  have h10 : 10 ≤ n := by
    by_contra hn
    rcases hhi with h | h
    · norm_num at h; omega
    · have : thr (n + 2 ^ 0) ≤ thr 10 := by
        by_cases hz : n = 0
        · subst hz
          rw [thr_eq 10 (by norm_num) (by norm_num)]
          have : thr (0 + 2 ^ 0) = ((0.75 * (2 : ℝ) ^ (-126 : ℤ) : ℝ) : EReal) := by
            unfold thr
            simp [Ideal.ofBits, Ideal.ieee, -EReal.coe_mul]; norm_num
          rw [this]
          exact_mod_cast (by norm_num : (0.75 * (2 : ℝ) ^ (-126 : ℤ) : ℝ) ≤ 448 * (2 : ℝ) ^ (((10 : ℕ) : ℤ) - 136))
        · rw [thr_eq 10 (by norm_num) (by norm_num), thr_eq _ (by norm_num; omega) (by norm_num; omega)]
          apply EReal.coe_le_coe
          have : (2 : ℝ) ^ (((n + 2 ^ 0 : ℕ) : ℤ) - 136) ≤ (2 : ℝ) ^ (((10 : ℕ) : ℤ) - 136) :=
            zpow_le_zpow_right₀ (by norm_num) (by push_cast; omega)
          linarith
      have h10 := h.trans_le this
      rw [thr_eq 10 (by norm_num) (by norm_num)] at h10
      have := EReal.coe_lt_coe_iff.mp h10
      norm_num at this h1
      linarith
  have hn : n ≤ 255 := by norm_num at hle; omega
  refine ⟨h10, hn, ?_, ?_⟩
  · rcases hlo with h | h
    · omega
    · rw [thr_eq n (by omega) hn] at h
      have := EReal.coe_le_coe_iff.mp h
      linarith
  · rcases hhi with h | h
    · have : n = 255 := by norm_num at h; omega
      subst this
      norm_num at h2 ⊢
      linarith
    · by_cases h255 : n = 255
      · subst h255
        norm_num at h2 ⊢
        linarith
      · rw [thr_eq (n + 2 ^ 0) (by omega) (by norm_num; omega)] at h
        have := EReal.coe_lt_coe_iff.mp h
        have e : ((n + 2 ^ 0 : ℕ) : ℤ) - 136 = (n : ℤ) - 135 := by push_cast; ring
        rw [e] at this
        linarith

/-- The kernel's scale and inverse scale, read off the number of the word. -/
theorem scale_word (n : ℕ) (h1 : 10 ≤ n) (h2 : n ≤ 255) :
    Ideal.ofBits .f32 (BitVec.ofNat 32 (n * 2 ^ 23) - 67108864#32) = (((2 : ℝ) ^ ((n : ℤ) - 135) : ℝ) : EReal)
      ∧ Ideal.ofBits .f32 (2130706432#32 - (BitVec.ofNat 32 (n * 2 ^ 23) - 67108864#32)) = (((2 : ℝ) ^ (-((n : ℤ) - 135)) : ℝ) : EReal) := by
  rw [ofBits_pow (n - 8) (by omega) (by omega) _ (toNat_sc n h1 h2), ofBits_pow (262 - n) (by omega) (by omega) _ (toNat_in n h1 h2)]
  constructor
  · rw [show ((n - 8 : ℕ) : ℤ) - 127 = (n : ℤ) - 135 by omega]
  · rw [show ((262 - n : ℕ) : ℤ) - 127 = -((n : ℤ) - 135) by omega]

/-- THE SCALE: for a maximum within the finite bf16 numbers, the kernel's scale and inverse scale are the powers of
    two with the reference's exponent. -/
theorem scale_eq (r : ℝ) (h2 : r ≤ 2 ^ 128 - 2 ^ 120) :
    kScale (r : EReal) = Ideal.exp2 (rExp (r : EReal)) ∧ kInv (r : EReal) = Ideal.exp2 (Ideal.ofBits .f32 0#32 - rExp (r : EReal)) := by
  have hp : (r : EReal) * ((1 / 448 : ℝ) : EReal) = ((r * (1 / 448) : ℝ) : EReal) := by rw [EReal.coe_mul]
  by_cases ht : r < 448 * (2 : ℝ) ^ (-126 : ℤ)
  · have hl : lifted (r : EReal) = ((256 : ℝ) : EReal) := by
      unfold lifted
      rw [ofBits_tiny, ofBits_256]
      rw [sel_olt, if_pos (EReal.coe_lt_coe_iff.mpr ht)]
    have he : rExp (r : EReal) = 0 := by
      unfold rExp
      rw [hp, ofBits_minNormal]
      have : r * (1 / 448) < (2 : ℝ) ^ (-126 : ℤ) := by
        rw [mul_one_div, div_lt_iff₀ (by norm_num), mul_comm]; exact ht
      rw [sel_olt, if_pos (EReal.coe_lt_coe_iff.mpr this), Ideal.ofBits_zero_f32]
    have hn : num ((256 : ℝ) : EReal) = 135 := by
      obtain ⟨a, b, c, d⟩ := num_spec 256 (by norm_num) (by norm_num)
      generalize num ((256 : ℝ) : EReal) = n at *
      have h3 : (2 : ℝ) ^ ((n : ℤ) - 136) < (2 : ℝ) ^ (0 : ℤ) := by refine c.trans_lt ?_; norm_num
      have h4 : (2 : ℝ) ^ (-1 : ℤ) < (2 : ℝ) ^ ((n : ℤ) - 135) := by refine lt_trans ?_ d; norm_num
      have h5 := (zpow_lt_zpow_iff_right₀ (by norm_num : (1 : ℝ) < 2)).mp h3
      have h6 := (zpow_lt_zpow_iff_right₀ (by norm_num : (1 : ℝ) < 2)).mp h4
      omega
    unfold kScale kInv
    rw [hl, word_eq, hn, he]
    obtain ⟨a, b⟩ := scale_word 135 (by norm_num) (by norm_num)
    rw [a, b]
    have h0 : (0 : EReal) = ((0 : ℝ) : EReal) := rfl
    rw [Ideal.ofBits_zero_f32, sub_zero, h0, Ideal.exp2_coe]
    norm_num
  · have ht' := not_lt.mp ht
    have hl : lifted (r : EReal) = (r : EReal) := by
      unfold lifted
      rw [ofBits_tiny, ofBits_256]
      rw [sel_olt, if_neg (fun h => ht (EReal.coe_lt_coe_iff.mp h))]
    obtain ⟨a, b, c, d⟩ := num_spec r ht' h2
    have hr : 0 < r * (1 / 448) := lt_of_lt_of_le (by positivity) c
    have he : rExp (r : EReal) = (((num (r : EReal) : ℤ) - 135 : ℤ) : ℝ) := by
      unfold rExp
      rw [hp, ofBits_minNormal, ofBits_two]
      have : ¬ r * (1 / 448) < (2 : ℝ) ^ (-126 : ℤ) := by
        rw [not_lt, mul_one_div, le_div_iff₀ (by norm_num), mul_comm]; exact ht'
      have hl2 : Real.log 2 ≠ 0 := (Real.log_pos (by norm_num)).ne'
      rw [sel_olt, if_neg (fun h => this (EReal.coe_lt_coe_iff.mp h)), Ideal.log_coe, if_neg (not_le.mpr hr), Ideal.log_coe, if_neg (by norm_num), Ideal.div_coe hl2,
        ← EReal.coe_mul, Ideal.liftRound_coe, Ideal.ofBits_one_f32]
      have hf : ⌊Real.log (r * (1 / 448)) * (1 / Real.log 2)⌋ = (num (r : EReal) : ℤ) - 136 := by
        rw [Int.floor_eq_iff]
        have hlog : 0 < Real.log 2 := Real.log_pos (by norm_num)
        have e1 := Real.log_le_log (by positivity) c
        have e2 := Real.log_lt_log hr d
        rw [Real.log_zpow] at e1 e2
        rw [mul_one_div]
        constructor
        · rw [le_div_iff₀ hlog]; push_cast at e1 ⊢; linarith
        · rw [div_lt_iff₀ hlog]; push_cast at e2 ⊢; linarith
      rw [hf]
      have h1' : (1 : EReal) = ((1 : ℝ) : EReal) := rfl
      rw [h1', ← EReal.coe_add]
      rw [EReal.coe_eq_coe_iff]
      push_cast
      ring
    unfold kScale kInv
    rw [hl, word_eq, he]
    obtain ⟨s, i⟩ := scale_word _ a b
    rw [s, i]
    have hs : Ideal.ofBits .f32 0#32 - ((((num (r : EReal) : ℤ) - 135 : ℤ) : ℝ) : EReal) = (((-((num (r : EReal) : ℤ) - 135) : ℤ) : ℝ) : EReal) := by
      rw [Ideal.ofBits_zero_f32, zero_sub, ← EReal.coe_neg]
      push_cast
      rfl
    rw [hs, Ideal.exp2_coe, Ideal.exp2_coe]
    constructor
    · rw [EReal.coe_eq_coe_iff]; exact (Real.rpow_intCast 2 _).symm
    · rw [EReal.coe_eq_coe_iff]; exact (Real.rpow_intCast 2 _).symm

end Cert.Words

end
-- ==== Proof.Pre.lean ====
/- What the precondition says of the inputs: every input number is in the format's finite range, and the outlier channels
   are distinct and none negative. -/
module

public import proofs.«01_k».proof.Pre_inputs_ok
public import proofs.«01_k».proof.Proof.Words
public import Idealize.ShloMosaic.Lib.ReduceAll
public import Idealize.ShloMosaic.Lib.Pointwise

@[expose] public section

set_option maxRecDepth 16384

noncomputable section

namespace Cert.Pre_inputs_ok

open Idealize.ShloMosaic

/-- The shape relations of the precondition. -/
instance facts : Facts where
  shapeCasts_S128_S128x1 := by decide
  shapeCasts_S128_S1x128 := by decide
  bcast_S128x1_S128x128_0_1 := by decide
  bcast_S1x128_S128x128_0_1 := by decide
  reducesTo_S128x128_S_d0_1 := by decide
  h_S_ := by decide
  bcast_S_S4x4096x3584 := by decide
  reducesTo_S4x4096x3584_S_d0_1_2 := by decide
  bcast_S_S128 := by decide
  reducesTo_S128_S_d0 := by decide

variable [Facts]
open Facts

instance : Subsingleton S_.Idx := ⟨fun _ _ => funext fun i => i.elim0⟩

/-- The word that says two entries are equal only if they are the same entry. -/
theorem distinct_at (v : IVec S128 32) (i j : Fin 128) :
    ori (noti (cmpi .eq (broadcastInDim S128x128 ![0, 1] bcast_S128x1_S128x128_0_1 (shapeCast S128x1 v shapeCasts_S128_S128x1))
        (broadcastInDim S128x128 ![0, 1] bcast_S1x128_S128x128_0_1 (shapeCast S1x128 v shapeCasts_S128_S1x128))))
      (cmpi .eq (iotaInDim S128x128 32 0) (iotaInDim S128x128 32 1)) (ix2 i j)
    = IntOp.ori (~~~ IntOp.cmpi .eq (v (ix1 i)) (v (ix1 j)))
        (IntOp.cmpi .eq (BitVec.ofNat 32 (i : ℕ)) (BitVec.ofNat 32 (j : ℕ))) := by
  pointwise []

/-- The inputs that the precondition admits. -/
theorem spec (x : FVec Ideal S4x4096x3584 .bf16) (v : IVec S128 32) (wo : FVec Ideal S128x896 .bf16) (wc : FVec Ideal S3584x896 .fp8e4m3)
    (ws : FVec Ideal S28x7 .f32) (h : fn (F := Ideal) x v wo wc ws = fun _ => 1#1) :
    (∀ y, FloatOps.absf (F := Ideal) (φ := .f32) (x y) ≤ (((2 : ℝ) ^ 128 - 2 ^ 120 : ℝ) : EReal)) ∧ (∀ i : Fin 128, 0 ≤ (v (ix1 i)).toInt)
      ∧ ∀ i j : Fin 128, v (ix1 i) = v (ix1 j) → i = j := by
  have h0 := congrFun h ix0
  obtain ⟨h1, hd⟩ := IntOp.andi_eq_one.1 h0
  obtain ⟨hx, hn⟩ := IntOp.andi_eq_one.1 h1
  refine ⟨fun y => ?_, fun i => ?_, fun i j e => ?_⟩
  · have e := Host.reduce_andi_all _ _ _ _ _ hx y
    have e' : Ideal.cmp .ole (FloatOps.absf (F := Ideal) (φ := .f32) (x y)) (Ideal.ofBits .bf16 0x7F7F#16) = 1#1 := e
    rw [Words.ofBits_bf16Max] at e'
    by_contra hc
    rw [Ideal.cmp, decide_eq_false hc] at e'
    exact absurd e' (by decide)
  · exact IntOp.cmpi_sge.1 (Host.reduce_andi_all _ _ _ _ _ hn (ix1 i))
  · have := (distinct_at v i j).symm.trans (Host.reduce_andi_all _ _ _ _ _ hd (ix2 i j))
    rw [IntOp.cmpi_eq.2 e] at this
    have hb : IntOp.cmpi .eq (BitVec.ofNat 32 (i : ℕ)) (BitVec.ofNat 32 (j : ℕ)) = 1#1 := BitVec.zero_or.symm.trans this
    have hv := congrArg BitVec.toNat (IntOp.cmpi_eq.1 hb)
    rw [BitVec.toNat_ofNat, BitVec.toNat_ofNat] at hv
    exact Fin.ext (by omega)

end Cert.Pre_inputs_ok

end
-- ==== Proof.Spec.lean ====
/- One token's results as functions of its 3584 channels, of which channels are outliers, and of the weights: what both
   programs compute, over the extended reals. -/
module

public import proofs.«01_k».proof.Proof.Words

@[expose] public section

noncomputable section

namespace Cert.Words

open Idealize.ShloMosaic

/-- Whether a channel is one of the outlier channels `i`. -/
def Out (i : Fin 128 → BitVec 32) (d : Fin 3584) : Prop := ∃ k : Fin 128, i k = BitVec.ofNat 32 (d : ℕ)

instance (i : Fin 128 → BitVec 32) : DecidablePred (Out i) := fun d => inferInstanceAs (Decidable (∃ k : Fin 128, i k = BitVec.ofNat 32 (d : ℕ)))

variable (i : Fin 128 → BitVec 32) (f : Fin 3584 → EReal)

/-- The token with its outliers set to zero. -/
def xin (d : Fin 3584) : EReal := if Out i d then 0 else f d

/-- The greatest magnitude of block `b`. -/
def amax (b : Fin 28) : EReal :=
  Finset.univ.fold max ⊥ fun l : Fin 128 => FloatOps.absf (F := Ideal) (φ := .f32) (xin i f ⟨128 * (b : ℕ) + (l : ℕ), by omega⟩)

/-- The block of a channel. -/
def blk (d : Fin 3584) : Fin 28 := ⟨(d : ℕ) / 128, by omega⟩

/-- The code of a channel. -/
def code (d : Fin 3584) : EReal :=
  min (Ideal.ofBits .f32 0x43E00000#32) (max (Ideal.ofBits .f32 0xC3E00000#32) (xin i f d * kInv (amax i f (blk d))))

/-- The scale of a block. -/
def scale (b : Fin 28) : EReal := kScale (amax i f b)

/-- What a channel contributes to the product: an outlier itself, any other channel its code times its scale. -/
def comb (d : Fin 3584) : EReal := if Out i d then f d else code i f d * scale i f (blk d)

/-- The weight of a channel for one output: an outlier's own row, picked by one-hot sum, or the code times its scale. -/
def weight (wo : Fin 128 → EReal) (wc : Fin 3584 → EReal) (ws : Fin 28 → EReal) (d : Fin 3584) : EReal :=
  if Out i d then ∑ k : Fin 128, wo k * (if i k = BitVec.ofNat 32 (d : ℕ) then 1 else 0) else wc d * ws (blk d)

/-- The product for one output. -/
def prod (wo : Fin 128 → EReal) (wc : Fin 3584 → EReal) (ws : Fin 28 → EReal) : EReal :=
  ∑ d : Fin 3584, weight i wo wc ws d * comb i f d

/-- Where the outlier channels are distinct, the one-hot sum is the one row. -/
theorem weight_out {wo : Fin 128 → EReal} {wc : Fin 3584 → EReal} {ws : Fin 28 → EReal} (hd : ∀ a b : Fin 128, i a = i b → a = b) {d : Fin 3584} {k : Fin 128}
    (hk : i k = BitVec.ofNat 32 (d : ℕ)) : weight i wo wc ws d = wo k := by
  rw [weight, if_pos ⟨k, hk⟩, Finset.sum_eq_single k]
  · rw [if_pos hk, mul_one]
  · intro b _ hb
    rw [if_neg fun h => hb (hd _ _ (h.trans hk.symm)), mul_zero]
  · intro h
    exact absurd (Finset.mem_univ k) h

/-- The greatest magnitude of a block of finite values is a real number in the format's range. -/
theorem amax_real (hf : ∀ d, FloatOps.absf (F := Ideal) (φ := .f32) (f d) ≤ (((2 : ℝ) ^ 128 - 2 ^ 120 : ℝ) : EReal)) (b : Fin 28) :
    ∃ r : ℝ, r ≤ 2 ^ 128 - 2 ^ 120 ∧ amax i f b = ((r : ℝ) : EReal) := by
  have h0 (x : EReal) : 0 ≤ FloatOps.absf (F := Ideal) (φ := .f32) x := by
    show (0 : EReal) ≤ Max.max x (-x)
    rcases le_total 0 x with h | h
    · exact le_max_of_le_left h
    · exact le_max_of_le_right (EReal.neg_nonneg.2 h)
  have hz : FloatOps.absf (F := Ideal) (φ := .f32) (0 : EReal) = 0 := by
    show Max.max (0 : EReal) (-0) = 0
    rw [neg_zero, max_self]
  have hx (d : Fin 3584) : FloatOps.absf (F := Ideal) (φ := .f32) (xin i f d) ≤ (((2 : ℝ) ^ 128 - 2 ^ 120 : ℝ) : EReal) := by
    unfold xin
    split
    · rw [hz]
      exact_mod_cast (by norm_num : (0 : ℝ) ≤ 2 ^ 128 - 2 ^ 120)
    · exact hf d
  have hu : amax i f b ≤ (((2 : ℝ) ^ 128 - 2 ^ 120 : ℝ) : EReal) := (Finset.fold_max_le _).2 ⟨bot_le, fun l _ => hx _⟩
  have hl : 0 ≤ amax i f b := (Finset.le_fold_max _).2 (Or.inr ⟨0, Finset.mem_univ _, h0 _⟩)
  have ht : amax i f b ≠ ⊤ := fun h => absurd (h ▸ hu) (not_le.2 (EReal.coe_lt_top _))
  have hb : amax i f b ≠ ⊥ := fun h => absurd (h ▸ hl) (not_le.2 EReal.bot_lt_zero)
  refine ⟨(amax i f b).toReal, ?_, (EReal.coe_toReal ht hb).symm⟩
  rw [← EReal.coe_toReal ht hb] at hu
  exact_mod_cast hu

end Cert.Words

end
-- ==== Proof.Block.lean ====
/- What the kernel's body computes of one block of 128 channels of a tile of 256 tokens, as functions of the block's
   kept channels and of the tile's block, and the list of such blocks that one grid point stores. -/
module

public import proofs.«01_k».proof.Proof.Gen.KernelIdeal.Skeleton

@[expose] public section

noncomputable section

namespace Cert.KernelIdeal.Gen

open Idealize.ShloMosaic Idealize.SL.Sem

variable {F : FTy → Type} [FloatOps F]

/-- The block's kept channels, as a mask over the tile. -/
def maskBlk (k : Vec F S1x128 .f32) : IVec S256x128 1 :=
  cmpf .ogt (truncf .bf16 (broadcastTo S256x128 (shapeCast S1x128 k shapeCasts_S1x128_S1x128) broadcasts_S1x128_S256x128) bitsLt_bf16_f32)
    (broadcast S256x128 (Scalar.ofBits .bf16 0x0000#16))

/-- The block with its outlier channels set to zero. -/
def xinBlk (k : Vec F S1x128 .f32) (x : Vec F S256x128 .bf16) : FVec F S256x128 .bf16 :=
  select (maskBlk k) (shapeCast S256x128 x shapeCasts_S256x128_S256x128) (broadcast S256x128 (Scalar.ofBits .bf16 0x0000#16))

/-- Each token's largest magnitude in the block. -/
def amaxBlk (k : Vec F S1x128 .f32) (x : Vec F S256x128 .bf16) : FVec F S256x1 .bf16 :=
  shapeCast S256x1 (multiReduction .maximumf [1] S256 (absf (xinBlk k x)) 0xFF80#16 reduces_S256x128_S256 (.inr rfl) rfl)
    shapeCasts_S256_S256x1

/-- The largest magnitude that is quantised, over the block's lanes. -/
def liftBlk (a : FVec F S256x1 .bf16) : FVec F S256x128 .f32 :=
  extf .f32 (select (cmpf .olt (broadcastTo S256x128 (shapeCast S256x1 a shapeCasts_S256x1_S256x1) broadcasts_S256x1_S256x128)
      (broadcast S256x128 (Scalar.ofBits .bf16 0x04E0#16)))
    (broadcast S256x128 (Scalar.ofBits .bf16 0x4380#16))
    (broadcastTo S256x128 (shapeCast S256x1 a shapeCasts_S256x1_S256x1) broadcasts_S256x1_S256x128)) bitsLt_bf16_f32

/-- One step of the search for the exponent words. -/
def trialBlk (a : FVec F S256x128 .f32) (c : BitVec 32) (w : IVec S256x128 32) : IVec S256x128 32 :=
  select (cmpf .oge a (bitcastToFloat .f32 (subi (addi w (broadcast S256x128 c)) (broadcast S256x128 2097152#32))))
    (addi w (broadcast S256x128 c)) w

/-- The exponent words of the block's largest magnitudes, less the scale's bias. -/
def bitsBlk (a : FVec F S256x128 .f32) : IVec S256x128 32 :=
  subi (trialBlk a 8388608#32 (trialBlk a 16777216#32 (trialBlk a 33554432#32 (trialBlk a 67108864#32
    (trialBlk a 134217728#32 (trialBlk a 268435456#32 (trialBlk a 536870912#32 (trialBlk a 1073741824#32
      (broadcast S256x128 0#32))))))))) (broadcast S256x128 67108864#32)

/-- The block's scales, one for each token, over the lanes. -/
def scaleBlk (k : Vec F S1x128 .f32) (x : Vec F S256x128 .bf16) : FVec F S256x128 .bf16 :=
  truncf .bf16 (bitcastToFloat .f32 (bitsBlk (liftBlk (amaxBlk k x)))) bitsLt_bf16_f32

/-- The block's codes. -/
def codesBlk (k : Vec F S1x128 .f32) (x : Vec F S256x128 .bf16) : FVec F S256x128 .fp8e4m3 :=
  truncf .fp8e4m3 (minimumf (broadcast S256x128 (Scalar.ofBits .bf16 0x43E0#16))
    (maximumf (broadcast S256x128 (Scalar.ofBits .bf16 0xC3E0#16))
      (mulf (xinBlk k x) (truncf .bf16 (bitcastToFloat .f32
        (subi (broadcast S256x128 2130706432#32) (bitsBlk (liftBlk (amaxBlk k x))))) bitsLt_bf16_f32)))) bitsLt_fp8e4m3_bf16

/-- The block that enters the product: dequantised in its kept channels, as it came in the outlier channels. -/
def combBlk (k : Vec F S1x128 .f32) (x : Vec F S256x128 .bf16) : FVec F S256x128 .bf16 :=
  shapeCast S256x128 (select (maskBlk k) (mulf (extf .bf16 (codesBlk k x) bitsLt_fp8e4m3_bf16) (scaleBlk k x))
    (shapeCast S256x128 x shapeCasts_S256x128_S256x128)) shapeCasts_S256x128_S256x128

/-- The pieces `f (n − 1)`, …, `f 0`: what stores in rising order leave, the last first. -/
def down {N : ℕ} {α : Type*} (f : Fin N → α) : (n : ℕ) → n ≤ N → List α
  | 0, _ => []
  | n + 1, h => f ⟨n, h⟩ :: down f n (Nat.le_of_succ_le h)

/-- A property of every `f b` holds of every member of the list. -/
theorem down_forall {N : ℕ} {α : Type*} (f : Fin N → α) (P : α → Prop) (hf : ∀ b, P (f b)) :
    ∀ (n : ℕ) (h : n ≤ N), ∀ p ∈ down f n h, P p
  | 0, _, p, hp => absurd hp List.not_mem_nil
  | n + 1, h, p, hp => by
    rcases List.mem_cons.mp hp with rfl | hp
    · exact hf _
    · exact down_forall f P hf n _ p hp

/-- The scales of the first `n` blocks, each in the lane of its block's number. -/
def lanes (s : Fin 28 → FVec F S256x128 .bf16) : (n : ℕ) → n ≤ 28 → FVec F S256x128 .bf16
  | 0, _ => broadcast S256x128 (Scalar.ofBits .bf16 0x0000#16)
  | n + 1, h => select (cmpi .eq (iota .tc S256x128 32 [1] iota_S256x128_d1_w32) (broadcast S256x128 (BitVec.ofNat 32 n))) (s ⟨n, h⟩)
      (lanes s n (Nat.le_of_succ_le h))

end Cert.KernelIdeal.Gen

end
-- ==== Proof.Prep.lean ====
/- What the kernel's first grid point prepares: the kept channels and the dequantised, transposed weights, a tile of
   256 channels or a block of 128 by 128 at a time, as functions of the point's inputs. -/
module

public import proofs.«01_k».proof.Proof.Block

@[expose] public section

noncomputable section

namespace Cert.KernelIdeal.Gen

open Idealize.ShloMosaic Idealize.SL.Sem

variable {F : FTy → Type} [FloatOps F]

/-- The one-hot rows of the outlier channels within channel tile `q`. -/
def hotTile (q : Fin 14) (idx : Vec F S128x1 .i32) : FVec F S128x256 .f32 :=
  sitofp .f32 (extui 32 (cmpi .eq
    (broadcastTo S128x256 (shapeCast S128x1 idx shapeCasts_S128x1_S128x1) broadcasts_S128x1_S128x256)
    (addi (broadcast S128x256 (BitVec.ofNat 32 (256 * (q : ℕ)))) (iota .tc S128x256 32 [1] iota_S128x256_d1_w32))) natLt_1_32)

/-- The kept channels of channel tile `q`, as ones and zeros. -/
def keepTile (q : Fin 14) (idx : Vec F S128x1 .i32) : FVec F S1x256 .f32 :=
  shapeCast S1x256 (subf (broadcast S1x256 (Scalar.ofBits .f32 0x3F800000#32))
    (shapeCast S1x256 (multiReduction .maximumf [0] S256 (hotTile q idx) 0xFF800000#32 reduces_S128x256_S256 (.inl rfl) rfl)
      shapeCasts_S256_S1x256)) shapeCasts_S1x256_S1x256

/-- The outlier weight rows of channel tile `q`, placed by the one-hot product. -/
def rowsTile (q : Fin 14) (idx : Vec F S128x1 .i32) (wo : Vec F S128x896 .bf16) : FVec F S896x256 .f32 :=
  matmul dot_S128x896_S128x256_S896x256_0_0_1_1_n_n none wo (truncf .bf16 (hotTile q idx) bitsLt_bf16_f32)
    (constant S896x256 .f32 0x00000000#32)

theorem slicesRow (h : Fin 2) : S1x256.Slices ![0, 128 * (h : ℕ)] S1x128 :=
  ⟨rfl, by have := h.isLt; intro a; fin_cases a <;> simp; omega⟩

theorem slicesTile (n : Fin 7) (h : Fin 2) : S896x256.Slices ![128 * (n : ℕ), 128 * (h : ℕ)] S128x128 :=
  ⟨rfl, by have := h.isLt; have := n.isLt; intro a; fin_cases a <;> simp <;> omega⟩

/-- One block of the transposed weights: the dequantised codes where the channel is kept, the placed rows elsewhere. -/
def weightBlk (n : Fin 7) (h : Fin 2) (keep : Vec F S1x256 .f32) (rows : FVec F S896x256 .f32)
    (codes : Vec F S128x128 .fp8e4m3) (s : Elt F .f32) : FVec F S128x128 .bf16 :=
  shapeCast S128x128 (truncf .bf16 (select
    (broadcastTo S128x128 (shapeCast S1x128 (extractStridedSlice S1x128 ![0, 128 * (h : ℕ)]
      (cmpf .ogt keep (broadcast S1x256 (Scalar.ofBits .f32 0x00000000#32))) (slicesRow h)) shapeCasts_S1x128_S1x128)
      broadcasts_S1x128_S128x128)
    (extf .f32 (transpose S128x128 [1, 0] (mulf (extf .bf16 codes bitsLt_fp8e4m3_bf16)
      (truncf .bf16 (broadcast S128x128 s) bitsLt_bf16_f32)) transposes_S128x128_p1_0_S128x128) bitsLt_bf16_f32)
    (extractStridedSlice S128x128 ![128 * (n : ℕ), 128 * (h : ℕ)] rows (slicesTile n h))) bitsLt_bf16_f32)
    shapeCasts_S128x128_S128x128

/-- The channel tile of store `p` of the weights. -/
def tileOf (p : Fin 196) : Fin 14 := ⟨p / 14, by omega⟩
/-- The channel block of store `p` within its tile. -/
def halfOf (p : Fin 196) : Fin 2 := ⟨p / 7 % 2, by omega⟩
/-- The block of outputs of store `p`. -/
def outOf (p : Fin 196) : Fin 7 := ⟨p % 7, by omega⟩

theorem inbT (q : Fin 14) : ∀ a, (![0, 256 * (q : ℕ)] : Fin 2 → ℕ) a + S1x256.size a ≤ S1x3584.size a := by
  have := q.isLt
  intro a; fin_cases a <;> simp; omega
theorem inbW (p : Fin 196) : ∀ a, (![128 * ((p : ℕ) % 7), 128 * ((p : ℕ) / 7)] : Fin 2 → ℕ) a + S128x128.size a ≤ S896x3584.size a := by
  have := p.isLt
  intro a; fin_cases a <;> simp <;> omega
theorem inbC (p : Fin 196) : ∀ a, (![128 * ((p : ℕ) / 7), 128 * ((p : ℕ) % 7)] : Fin 2 → ℕ) a + S128x128.size a ≤ S3584x896.size a := by
  have := p.isLt
  intro a; fin_cases a <;> simp <;> omega
theorem inbS (p : Fin 196) : ∀ a, (![(p : ℕ) / 7, (p : ℕ) % 7] : Fin 2 → ℕ) a + S1x1.size a ≤ S28x7.size a := by
  have := p.isLt
  intro a; fin_cases a <;> simp <;> omega
theorem inbX (b : Fin 28) : ∀ a, (![0, 128 * (b : ℕ)] : Fin 2 → ℕ) a + S256x128.size a ≤ S256x3584.size a := by
  have := b.isLt
  intro a; fin_cases a <;> simp; omega
theorem inbK (b : Fin 28) : ∀ a, (![0, 128 * (b : ℕ)] : Fin 2 → ℕ) a + S1x128.size a ≤ S1x3584.size a := by
  have := b.isLt
  intro a; fin_cases a <;> simp; omega

/-- Channel tile `q` of the kept channels. -/
def rectT (q : Fin 14) : Rect S1x3584 := Rect.unit (s := S1x3584) ![0, 256 * (q : ℕ)] S1x256.size (inbT q)
/-- The block of the transposed weights that store `p` writes. -/
def rectW (p : Fin 196) : Rect S896x3584 :=
  Rect.unit (s := S896x3584) ![128 * ((p : ℕ) % 7), 128 * ((p : ℕ) / 7)] S128x128.size (inbW p)
/-- The block of the weight codes that store `p` reads. -/
def rectC (p : Fin 196) : Rect S3584x896 :=
  Rect.unit (s := S3584x896) ![128 * ((p : ℕ) / 7), 128 * ((p : ℕ) % 7)] S128x128.size (inbC p)
/-- The weight scale that store `p` reads. -/
def rectS (p : Fin 196) : Rect S28x7 := Rect.unit (s := S28x7) ![(p : ℕ) / 7, (p : ℕ) % 7] S1x1.size (inbS p)
/-- Channel block `b` of the tile of tokens. -/
def rectX (b : Fin 28) : Rect S256x3584 := Rect.unit (s := S256x3584) ![0, 128 * (b : ℕ)] S256x128.size (inbX b)
/-- Channel block `b` of the kept channels. -/
def rectK (b : Fin 28) : Rect S1x3584 := Rect.unit (s := S1x3584) ![0, 128 * (b : ℕ)] S1x128.size (inbK b)

/-- The stores of the kept channels. -/
def keepPiece (idx : Vec F S128x1 .i32) (q : Fin 14) : View.Piece (Elt F) S1x3584 .f32 := ⟨rectT q, keepTile q idx⟩

end Cert.KernelIdeal.Gen

end
-- ==== Proof.Pieces.lean ====
/- The stores of one grid point, buffer by buffer: at the first point the prepared scratches, at every point the codes,
   the scales, the combined tile and the product, each as a list of uniform pieces. -/
module

public import proofs.«01_k».proof.Proof.Gen.KernelIdeal.Frame
public import proofs.«01_k».proof.Proof.Prep

@[expose] public section

set_option maxRecDepth 16384

noncomputable section

namespace Cert.KernelIdeal.Gen

open Idealize.ShloMosaic Idealize.ShloMosaic.TcCoe Idealize.SL Idealize.SL.Sem

variable {F : FTy → Type} [FloatOps F]

section
variable (c : Dev nD) (i : grid0.Coords) (arg1 : Memref sig .tc .vmem S128x1 .i32) (harg1 : arg1.IsWhole) (arg2 : Memref sig .tc .vmem S128x896 .bf16) (harg2 : arg2.IsWhole) (arg3 : Memref sig .tc .vmem S3584x896 .fp8e4m3) (harg3 : arg3.IsWhole) (arg4 : Memref sig .tc .smem S28x7 .f32) (harg4 : arg4.IsWhole) (arg5 : Memref sig .tc .vmem S256x3584 .bf16) (harg5 : arg5.IsWhole) (arg6 : Memref sig .tc .vmem S256x896 .bf16) (harg6 : arg6.IsWhole) (arg7 : Memref sig .tc .vmem S256x3584 .fp8e4m3) (harg7 : arg7.IsWhole) (arg8 : Memref sig .tc .vmem S256x28 .f32) (harg8 : arg8.IsWhole) (arg9 : Memref sig .tc .vmem S896x3584 .bf16) (harg9 : arg9.IsWhole) (arg10 : Memref sig .tc .vmem S1x3584 .f32) (harg10 : arg10.IsWhole) (arg11 : Memref sig .tc .vmem S256x3584 .bf16) (harg11 : arg11.IsWhole)
    (x0 : Vec F S128x1 .i32) (x1 : Vec F S128x896 .bf16) (x2 : Vec F S3584x896 .fp8e4m3) (x3 : Vec F S28x7 .f32) (x4 : Vec F S256x3584 .bf16) (xs0 : Vec F S896x3584 .bf16) (xs1 : Vec F S1x3584 .f32)

/-- The load of the outlier channels. -/
def ldI : Vec F S128x1 .i32 :=
  arg1.view.readAt (Elt F) (Rect.unit (s := S128x1) ![0, 0] S128x1.size inb_S128x1_S128x1_0_0).toLoadRect (harg1.unread x0)
/-- The load of the outlier weight rows. -/
def ldO : Vec F S128x896 .bf16 :=
  arg2.view.readAt (Elt F) (Rect.unit (s := S128x896) ![0, 0] S128x896.size inb_S128x896_S128x896_0_0).toLoadRect (harg2.unread x1)
/-- The load of the weight codes of store `p`. -/
def ldC (p : Fin 196) : Vec F S128x128 .fp8e4m3 := arg3.view.readAt (Elt F) (rectC p).toLoadRect (harg3.unread x2)
/-- The load of the weight scale of store `p`. -/
def ldS (p : Fin 196) : Elt F .f32 := arg4.view.readAt (Elt F) (rectS p).toLoadRect (harg4.unread x3) (Shape.Idx.first (s := S1x1) (by decide))
/-- The load of a block of the tile. -/
def ldX (b : Fin 28) : Vec F S256x128 .bf16 := arg5.view.readAt (Elt F) (rectX b).toLoadRect (harg5.unread x4)
/-- The load of a block of the kept channels that an earlier point left. -/
def ldK (b : Fin 28) : Vec F S1x128 .f32 := arg10.view.readAt (Elt F) (rectK b).toLoadRect (harg10.unread xs1)
/-- The load of a block of the kept channels that this point stored. -/
def ldKA (b : Fin 28) : Vec F S1x128 .f32 :=
  arg10.view.readCov (down (keepPiece (ldI arg1 harg1 x0)) 14 le_rfl) (rectK b).toLoadRect
/-- The load of a tile of the kept channels during the preparation. -/
def ldT (q : Fin 14) : Vec F S1x256 .f32 :=
  arg10.view.readCov (down (keepPiece (ldI arg1 harg1 x0)) (q + 1) q.isLt) (rectT q).toLoadRect

/-- The stores of the codes, from the loads of the kept channels and of the tile. -/
def codesPiece (k : Fin 28 → Vec F S1x128 .f32) (x : Fin 28 → Vec F S256x128 .bf16) (b : Fin 28) :
    View.Piece (Elt F) S256x3584 .fp8e4m3 := ⟨rectX b, codesBlk (k b) (x b)⟩
/-- The stores of the combined tile. -/
def combPiece (k : Fin 28 → Vec F S1x128 .f32) (x : Fin 28 → Vec F S256x128 .bf16) (b : Fin 28) :
    View.Piece (Elt F) S256x3584 .bf16 := ⟨rectX b, combBlk (k b) (x b)⟩
/-- The store of the scales. -/
def scalePiece (k : Fin 28 → Vec F S1x128 .f32) (x : Fin 28 → Vec F S256x128 .bf16) : View.Piece (Elt F) S256x28 .f32 :=
  ⟨Rect.unit (s := S256x28) ![0, 0] S256x28.size inb_S256x28_S256x28_0_0, extractStridedSlice S256x28 ![0, 0]
    (extf .f32 (lanes (fun b => scaleBlk (k b) (x b)) 28 le_rfl) bitsLt_bf16_f32) slices_S256x128_o0_0_S256x28⟩
/-- The store of the product, from the weights and the combined tile. -/
def prodPiece (w : Vec F S896x3584 .bf16) (xc : Vec F S256x3584 .bf16) : View.Piece (Elt F) S256x896 .bf16 :=
  ⟨Rect.unit (s := S256x896) ![0, 0] S256x896.size inb_S256x896_S256x896_0_0, k0_pay6 w xc⟩
/-- The load of the combined tile that this point stored. -/
def ldXC (k : Fin 28 → Vec F S1x128 .f32) (x : Fin 28 → Vec F S256x128 .bf16) : Vec F S256x3584 .bf16 :=
  arg11.view.readCov (down (combPiece k x) 28 le_rfl)
    (Rect.unit (s := S256x3584) ![0, 0] S256x3584.size inb_S256x3584_S256x3584_0_0).toLoadRect
/-- The stores of the transposed weights. -/
def weightPiece (p : Fin 196) : View.Piece (Elt F) S896x3584 .bf16 :=
  ⟨rectW p, weightBlk (outOf p) (halfOf p) (ldT arg1 harg1 arg10 x0 (tileOf p))
    (rowsTile (tileOf p) (ldI arg1 harg1 x0) (ldO arg2 harg2 x1)) (ldC arg3 harg3 x2 p) (ldS arg4 harg4 x3 p)⟩

section
variable (hc0 : ¬cond0_0 i)

theorem codes_B : (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.1
    = down (codesPiece (ldK arg10 harg10 xs1) (ldX arg5 harg5 x4)) 28 le_rfl := rfl
theorem scale_B : (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).2.2.1
    = [scalePiece (ldK arg10 harg10 xs1) (ldX arg5 harg5 x4)] := rfl
theorem prod_B : (kernelRun0_B c i arg1 harg1 arg2 harg2 arg3 harg3 arg4 harg4 arg5 harg5 arg6 harg6 arg7 harg7 arg8 harg8 arg9 harg9 arg10 harg10 arg11 harg11 hc0 x0 x1 x2 x3 x4 xs0 xs1).1
    = [prodPiece (arg9.view.readAt (Elt F) (Rect.unit (s := S896x3584) ![0, 0] S896x3584.size inb_S896x3584_S896x3584_0_0).toLoadRect (harg9.unread xs0))
        (ldXC arg11 (ldK arg10 harg10 xs1) (ldX arg5 harg5 x4))] := rfl
end

section
variable (hc0 : cond0_0 i)

theorem codes_A : (kernelRun0_A c i arg1 harg1 arg2 harg2 arg3 harg3 arg4 harg4 arg5 harg5 arg6 harg6 arg7 harg7 arg8 harg8 arg9 harg9 arg10 harg10 arg11 harg11 hc0 x0 x1 x2 x3 x4).2.1
    = down (codesPiece (ldKA arg1 harg1 arg10 x0) (ldX arg5 harg5 x4)) 28 le_rfl := rfl
theorem scale_A : (kernelRun0_A c i arg1 harg1 arg2 harg2 arg3 harg3 arg4 harg4 arg5 harg5 arg6 harg6 arg7 harg7 arg8 harg8 arg9 harg9 arg10 harg10 arg11 harg11 hc0 x0 x1 x2 x3 x4).2.2.1
    = [scalePiece (ldKA arg1 harg1 arg10 x0) (ldX arg5 harg5 x4)] := rfl
theorem keep_A : (kernelRun0_A c i arg1 harg1 arg2 harg2 arg3 harg3 arg4 harg4 arg5 harg5 arg6 harg6 arg7 harg7 arg8 harg8 arg9 harg9 arg10 harg10 arg11 harg11 hc0 x0 x1 x2 x3 x4).2.2.2.2.1
    = down (keepPiece (ldI arg1 harg1 x0)) 14 le_rfl := rfl
theorem weights_A : (kernelRun0_A c i arg1 harg1 arg2 harg2 arg3 harg3 arg4 harg4 arg5 harg5 arg6 harg6 arg7 harg7 arg8 harg8 arg9 harg9 arg10 harg10 arg11 harg11 hc0 x0 x1 x2 x3 x4).2.2.2.1
    = down (weightPiece arg1 harg1 arg2 harg2 arg3 harg3 arg4 harg4 arg10 x0 x1 x2 x3) 196 le_rfl := rfl
theorem prod_A : (kernelRun0_A c i arg1 harg1 arg2 harg2 arg3 harg3 arg4 harg4 arg5 harg5 arg6 harg6 arg7 harg7 arg8 harg8 arg9 harg9 arg10 harg10 arg11 harg11 hc0 x0 x1 x2 x3 x4).1
    = [prodPiece (arg9.view.readCov (down (weightPiece arg1 harg1 arg2 harg2 arg3 harg3 arg4 harg4 arg10 x0 x1 x2 x3) 196 le_rfl)
          (Rect.unit (s := S896x3584) ![0, 0] S896x3584.size inb_S896x3584_S896x3584_0_0).toLoadRect)
        (ldXC arg11 (ldKA arg1 harg1 arg10 x0) (ldX arg5 harg5 x4))] := rfl
end
end
end Cert.KernelIdeal.Gen

end
-- ==== Proof.Arr.lean ====
/- What each buffer of one grid point holds, as one function of the point's inputs: the stores' pieces tile the buffer,
   and each piece is that function on its rectangle. -/
module

public import proofs.«01_k».proof.Proof.Pieces
public import Idealize.ShloMosaic.Lib.Pipeline.ValueKit
public import Idealize.ShloMosaic.Lib.Pipeline.ReadBack
public import Idealize.ShloMosaic.Lib.WholeRead
public import Idealize.ShloMosaic.Lib.Pointwise

@[expose] public section

set_option maxRecDepth 16384

noncomputable section

namespace Cert.KernelIdeal.Gen

open Idealize.ShloMosaic Idealize.ShloMosaic.TcCoe Idealize.SL Idealize.SL.Sem

variable {F : FTy → Type} [FloatOps F]

/-- The block of a channel. -/
def blkC (k : Fin 3584) : Fin 28 := ⟨k / 128, by omega⟩
/-- The lane of a channel. -/
def laneC (k : Fin 3584) : Fin 128 := ⟨k % 128, by omega⟩
/-- Channel `l` of block `b`. -/
def chan (b : Fin 28) (l : Fin 128) : Fin 3584 := ⟨128 * (b : ℕ) + l, by omega⟩

theorem blkC_chan (b : Fin 28) (l : Fin 128) : blkC (chan b l) = b := Fin.ext (by simp only [blkC, chan]; omega)
theorem laneC_chan (b : Fin 28) (l : Fin 128) : laneC (chan b l) = l := Fin.ext (by simp only [laneC, chan]; omega)
theorem chan_blkC (k : Fin 3584) : chan (blkC k) (laneC k) = k := Fin.ext (by simp only [blkC, laneC, chan]; omega)

/-- Block `b` of the kept channels. -/
def keepB (keep : Vec F S1x3584 .f32) (b : Fin 28) : Vec F S1x128 .f32 := fun j => keep (ix2 0 (chan b (j 1)))
/-- Block `b` of the tile. -/
def tileB (x : Vec F S256x3584 .bf16) (b : Fin 28) : Vec F S256x128 .bf16 := fun j => x (ix2 (j 0) (chan b (j 1)))

/-- The tile's codes. -/
def codesArr (keep : Vec F S1x3584 .f32) (x : Vec F S256x3584 .bf16) : Vec F S256x3584 .fp8e4m3 := fun y =>
  codesBlk (keepB keep (blkC (y 1))) (tileB x (blkC (y 1))) (ix2 (y 0) (laneC (y 1)))
/-- The tile that enters the product. -/
def combArr (keep : Vec F S1x3584 .f32) (x : Vec F S256x3584 .bf16) : Vec F S256x3584 .bf16 := fun y =>
  combBlk (keepB keep (blkC (y 1))) (tileB x (blkC (y 1))) (ix2 (y 0) (laneC (y 1)))
/-- The tile's scales. -/
def scaleArr (keep : Vec F S1x3584 .f32) (x : Vec F S256x3584 .bf16) : Vec F S256x28 .f32 :=
  extractStridedSlice S256x28 ![0, 0]
    (extf .f32 (lanes (fun b => scaleBlk (keepB keep b) (tileB x b)) 28 le_rfl) bitsLt_bf16_f32) slices_S256x128_o0_0_S256x28
/-- The kept channels. -/
def keepArr (idx : Vec F S128x1 .i32) : Vec F S1x3584 .f32 := fun y =>
  keepTile ⟨(y 1 : ℕ) / 256, by have := (y 1).isLt; have : (y 1 : ℕ) < 3584 := this; omega⟩ idx (ix2 0 ⟨(y 1 : ℕ) % 256, by omega⟩)
/-- A tile of 256 kept channels. -/
def keepT (keep : Vec F S1x3584 .f32) (q : Fin 14) : Vec F S1x256 .f32 := fun j =>
  keep (ix2 0 ⟨256 * (q : ℕ) + (j 1 : ℕ), by have : (j 1 : ℕ) < 256 := (j 1).isLt; omega⟩)
/-- A block of the weight codes. -/
def codesW (wc : Vec F S3584x896 .fp8e4m3) (p : Fin 196) : Vec F S128x128 .fp8e4m3 := fun j =>
  wc (ix2 ⟨128 * ((p : ℕ) / 7) + (j 0 : ℕ), by have : (j 0 : ℕ) < 128 := (j 0).isLt; omega⟩
    ⟨128 * ((p : ℕ) % 7) + (j 1 : ℕ), by have : (j 1 : ℕ) < 128 := (j 1).isLt; omega⟩)
/-- The weight scale of a block. -/
def scaleW (ws : Vec F S28x7 .f32) (p : Fin 196) : Elt F .f32 := ws (ix2 ⟨(p : ℕ) / 7, by omega⟩ ⟨(p : ℕ) % 7, by omega⟩)
/-- One block of the transposed weights, from the inputs. -/
def weightOf (idx : Vec F S128x1 .i32) (wo : Vec F S128x896 .bf16) (wc : Vec F S3584x896 .fp8e4m3) (ws : Vec F S28x7 .f32)
    (p : Fin 196) : FVec F S128x128 .bf16 :=
  weightBlk (outOf p) (halfOf p) (keepT (keepArr idx) (tileOf p)) (rowsTile (tileOf p) idx wo) (codesW wc p) (scaleW ws p)
/-- The store that writes output `n`, channel `k` of the transposed weights. -/
def storeOf (n : Fin 896) (k : Fin 3584) : Fin 196 := ⟨(k : ℕ) / 128 * 7 + (n : ℕ) / 128, by omega⟩
/-- The transposed weights. -/
def weightArr (idx : Vec F S128x1 .i32) (wo : Vec F S128x896 .bf16) (wc : Vec F S3584x896 .fp8e4m3) (ws : Vec F S28x7 .f32) :
    Vec F S896x3584 .bf16 := fun y =>
  weightOf idx wo wc ws (storeOf (y 0) (y 1)) (ix2 ⟨(y 0 : ℕ) % 128, by omega⟩ ⟨(y 1 : ℕ) % 128, by omega⟩)

/-- Every piece of the list is `f b` for some `b` below the bound, and each such piece is in the list. -/
theorem mem_down {N : ℕ} {α : Type*} (f : Fin N → α) (b : Fin N) : ∀ (n : ℕ) (h : n ≤ N), (b : ℕ) < n → f b ∈ down f n h
  | 0, _, hb => absurd hb (Nat.not_lt_zero _)
  | n + 1, h, hb => by
    rcases Nat.lt_succ_iff_lt_or_eq.mp hb with hb | hb
    · exact List.mem_cons_of_mem _ (mem_down f b n _ hb)
    · subst hb
      exact List.mem_cons_self

/-- Pieces that agree with one function, read at an index that one of them holds. -/
theorem canon_down {N : ℕ} {S : Shape} {e : EltTy} (f : Fin N → View.Piece (Elt F) S e) (G : S.Idx → Elt F e)
    (hf : ∀ b, ∀ x : (f b).1.shape.Idx, (f b).2 x = G ((f b).1.emb x)) (n : ℕ) (h : n ≤ N) (y : S.Idx) (b : Fin N)
    (hb : (b : ℕ) < n) (hy : y ∈ (f b).1.set) : View.canon (down f n h) y = G y :=
  View.canon_apply_of_pieces G _ (down_forall f (fun p => ∀ x : p.1.shape.Idx, p.2 x = G (p.1.emb x)) hf n h) y
    ⟨f b, mem_down f b n h hb, hy⟩

theorem emb_rectX (b : Fin 28) (t : Fin 256) (l : Fin 128) : (rectX b).emb (ix2 t l) = ix2 t (chan b l) := by
  funext a
  refine Fin.ext ?_
  match a with
  | ⟨0, _⟩ => exact (ValueKit.rect_emb_unit_val _ _ _ _ _).trans (Nat.zero_add _)
  | ⟨1, _⟩ => exact ValueKit.rect_emb_unit_val _ _ _ _ _
theorem emb_rectK (b : Fin 28) (t : Fin 1) (l : Fin 128) : (rectK b).emb (ix2 t l) = ix2 t (chan b l) := by
  funext a
  refine Fin.ext ?_
  match a with
  | ⟨0, _⟩ => exact (ValueKit.rect_emb_unit_val _ _ _ _ _).trans (Nat.zero_add _)
  | ⟨1, _⟩ => exact ValueKit.rect_emb_unit_val _ _ _ _ _
theorem emb_rectT (q : Fin 14) (t : Fin 1) (l : Fin 256) : (rectT q).emb (ix2 t l) = ix2 t ⟨256 * (q : ℕ) + l, by omega⟩ := by
  funext a
  refine Fin.ext ?_
  match a with
  | ⟨0, _⟩ => exact (ValueKit.rect_emb_unit_val _ _ _ _ _).trans (Nat.zero_add _)
  | ⟨1, _⟩ => exact ValueKit.rect_emb_unit_val _ _ _ _ _
theorem emb_rectW (p : Fin 196) (n l : Fin 128) :
    (rectW p).emb (ix2 n l) = ix2 ⟨128 * ((p : ℕ) % 7) + n, by omega⟩ ⟨128 * ((p : ℕ) / 7) + l, by omega⟩ := by
  funext a
  refine Fin.ext ?_
  match a with
  | ⟨0, _⟩ => exact ValueKit.rect_emb_unit_val _ _ _ _ _
  | ⟨1, _⟩ => exact ValueKit.rect_emb_unit_val _ _ _ _ _
theorem emb_rectC (p : Fin 196) (n l : Fin 128) :
    (rectC p).emb (ix2 n l) = ix2 ⟨128 * ((p : ℕ) / 7) + n, by omega⟩ ⟨128 * ((p : ℕ) % 7) + l, by omega⟩ := by
  funext a
  refine Fin.ext ?_
  match a with
  | ⟨0, _⟩ => exact ValueKit.rect_emb_unit_val _ _ _ _ _
  | ⟨1, _⟩ => exact ValueKit.rect_emb_unit_val _ _ _ _ _
theorem emb_rectS (p : Fin 196) (n l : Fin 1) :
    (rectS p).emb (ix2 n l) = ix2 ⟨(p : ℕ) / 7, by omega⟩ ⟨(p : ℕ) % 7, by omega⟩ := by
  funext a
  refine Fin.ext ?_
  match a with
  | ⟨0, _⟩ => exact (ValueKit.rect_emb_unit_val _ _ _ _ _).trans (by simp [Subsingleton.elim n 0])
  | ⟨1, _⟩ => exact (ValueKit.rect_emb_unit_val _ _ _ _ _).trans (by simp [Subsingleton.elim l 0])

/-- A rectangle at the origin of the whole extent places an index at itself. -/
theorem emb_origin {S : Shape} (off : Fin S.rank → ℕ) (h0 : ∀ a, off a = 0) (inb) (x : S.Idx) :
    (Rect.unit (s := S) off S.size inb).emb x = x := by
  funext a
  refine Fin.ext ?_
  exact (ValueKit.rect_emb_unit_val _ _ _ _ _).trans (by rw [h0, Nat.zero_add])

theorem emb_mem {S : Shape} (r : Rect S) (x : r.shape.Idx) : r.emb x ∈ r.set := r.idx_mem x

theorem mem_rectX (t : Fin 256) (k : Fin 3584) : (ix2 t k : S256x3584.Idx) ∈ (rectX (blkC k)).set := by
  have h : (rectX (blkC k)).emb (ix2 t (laneC k)) = ix2 t k := by rw [emb_rectX, chan_blkC]
  rw [← h]
  exact emb_mem _ _
theorem mem_rectT (t : Fin 1) (k : Fin 3584) : (ix2 t k : S1x3584.Idx) ∈ (rectT ⟨(k : ℕ) / 256, by omega⟩).set := by
  have h : (rectT ⟨(k : ℕ) / 256, by omega⟩).emb (ix2 t ⟨(k : ℕ) % 256, by omega⟩) = ix2 t k := by
    rw [emb_rectT]
    exact congrArg (ix2 t) (Fin.ext (Nat.div_add_mod _ _))
  rw [← h]
  exact emb_mem _ _
theorem mem_rectW (n : Fin 896) (k : Fin 3584) : (ix2 n k : S896x3584.Idx) ∈ (rectW (storeOf n k)).set := by
  have h : (rectW (storeOf n k)).emb (ix2 ⟨(n : ℕ) % 128, by omega⟩ ⟨(k : ℕ) % 128, by omega⟩) = ix2 n k := by
    rw [emb_rectW]
    refine congrArg₂ ix2 (Fin.ext ?_) (Fin.ext ?_)
    · simp only [storeOf]; omega
    · simp only [storeOf]; omega
  rw [← h]
  exact emb_mem _ _

/-- The codes' stores leave the tile's codes. -/
theorem canon_codes (keep : Vec F S1x3584 .f32) (x : Vec F S256x3584 .bf16) :
    View.canon (down (codesPiece (keepB keep) (tileB x)) 28 le_rfl) = codesArr keep x := by
  funext y
  refine canon_down _ _ (fun b z => ?_) 28 le_rfl y (blkC (y 1)) (blkC (y 1)).isLt ?_
  · obtain ⟨t, l, rfl⟩ : ∃ (t : Fin 256) (l : Fin 128), z = ix2 t l := ⟨z 0, z 1, eq_ix2 z⟩
    refine Eq.trans ?_ (congrArg (codesArr keep x) (emb_rectX b t l)).symm
    show _ = codesBlk (keepB keep (blkC (chan b l))) (tileB x (blkC (chan b l))) (ix2 t (laneC (chan b l)))
    rw [blkC_chan, laneC_chan]
    rfl
  · rw [eq_ix2 y]
    exact mem_rectX _ _

/-- The combined tile's stores leave the combined tile. -/
theorem canon_comb (keep : Vec F S1x3584 .f32) (x : Vec F S256x3584 .bf16) :
    View.canon (down (combPiece (keepB keep) (tileB x)) 28 le_rfl) = combArr keep x := by
  funext y
  refine canon_down _ _ (fun b z => ?_) 28 le_rfl y (blkC (y 1)) (blkC (y 1)).isLt ?_
  · obtain ⟨t, l, rfl⟩ : ∃ (t : Fin 256) (l : Fin 128), z = ix2 t l := ⟨z 0, z 1, eq_ix2 z⟩
    refine Eq.trans ?_ (congrArg (combArr keep x) (emb_rectX b t l)).symm
    show _ = combBlk (keepB keep (blkC (chan b l))) (tileB x (blkC (chan b l))) (ix2 t (laneC (chan b l)))
    rw [blkC_chan, laneC_chan]
    rfl
  · rw [eq_ix2 y]
    exact mem_rectX _ _

/-- Each stored tile of kept channels is that tile of the kept channels. -/
theorem keepPiece_eq (idx : Vec F S128x1 .i32) (q : Fin 14) (z : (keepPiece idx q).1.shape.Idx) :
    (keepPiece idx q).2 z = keepArr idx ((keepPiece idx q).1.emb z) := by
  obtain ⟨t, l, rfl⟩ : ∃ (t : Fin 1) (l : Fin 256), z = ix2 t l := ⟨z 0, z 1, eq_ix2 z⟩
  refine Eq.trans ?_ (congrArg (keepArr idx) (emb_rectT q t l)).symm
  obtain rfl : t = 0 := Subsingleton.elim _ _
  have hq : (⟨(256 * (q : ℕ) + l) / 256, by omega⟩ : Fin 14) = q := Fin.ext (by simp only []; omega)
  have hl : (⟨(256 * (q : ℕ) + l) % 256, by omega⟩ : Fin 256) = l := Fin.ext (by simp only []; omega)
  show _ = keepTile (⟨(256 * (q : ℕ) + l) / 256, by omega⟩ : Fin 14) idx (ix2 0 (⟨(256 * (q : ℕ) + l) % 256, by omega⟩ : Fin 256))
  rw [hq, hl]
  rfl

/-- After the stores of the tiles up to `n`, a channel of one of those tiles reads its kept channel. -/
theorem canon_keep (idx : Vec F S128x1 .i32) (n : ℕ) (h : n ≤ 14) (t : Fin 1) (k : Fin 3584) (hk : (k : ℕ) / 256 < n) :
    View.canon (down (keepPiece idx) n h) (ix2 t k) = keepArr idx (ix2 t k) :=
  canon_down _ _ (keepPiece_eq idx) n h _ ⟨(k : ℕ) / 256, by omega⟩ hk (mem_rectT t k)

end Cert.KernelIdeal.Gen

end
-- ==== Proof.At.lean ====
/- The kernel's blocks read at an index over the extended reals. -/
module

public import proofs.«01_k».proof.Proof.Prep
public import proofs.«01_k».proof.Proof.Words
public import Idealize.ShloMosaic.Lib.Pointwise

@[expose] public section

set_option maxRecDepth 16384

noncomputable section

namespace Cert.KernelIdeal.Gen

open Idealize.ShloMosaic Idealize.SL.Sem

/-- An outlier channel reads zero, a kept channel reads the input. -/
theorem xin_at (k : Vec Ideal S1x128 .f32) (x : Vec Ideal S256x128 .bf16) (t : Fin 256) (l : Fin 128) :
    xinBlk k x (ix2 t l) = if (0 : EReal) < k (ix2 0 l) then x (ix2 t l) else (0 : EReal) := by
  unfold xinBlk maskBlk
  pointwise []

/-- The largest magnitude of a token's block is the fold over the lanes. -/
theorem amax_at (k : Vec Ideal S1x128 .f32) (x : Vec Ideal S256x128 .bf16) (t : Fin 256) :
    amaxBlk k x (ix2 t 0)
      = Finset.univ.fold max (Ideal.ofBits .bf16 0xFF80#16) fun l : Fin 128 => FloatOps.absf (F := Ideal) (φ := .bf16) (xinBlk k x (ix2 t l)) := by
  pointwise [amaxBlk]

/-- One step of the search is the scalar step. -/
theorem trial_at (a : FVec Ideal S256x128 .f32) (c : BitVec 32) (w : IVec S256x128 32) (j : S256x128.Idx) :
    trialBlk a c w j = Cert.Words.stepW (a j) c (w j) := Eq.mp rfl (rfl : trialBlk a c w j = trialBlk a c w j)

/-- The search finds the exponent word of each lane. -/
theorem bits_at (a : FVec Ideal S256x128 .f32) (j : S256x128.Idx) : bitsBlk a j = Cert.Words.word (a j) - 67108864#32 := by
  unfold bitsBlk
  show IntOp.subi _ _ = _
  simp only [trial_at]
  rfl

theorem bc_at (a : FVec Ideal S256x1 .bf16) (t : Fin 256) (l : Fin 128) :
    broadcastTo S256x128 (shapeCast S256x1 a shapeCasts_S256x1_S256x1) broadcasts_S256x1_S256x128 (ix2 t l) = a (ix2 t 0) := by
  pointwise []

/-- Each lane holds its token's largest magnitude, lifted. -/
theorem lift_at (a : FVec Ideal S256x1 .bf16) (t : Fin 256) (l : Fin 128) :
    liftBlk a (ix2 t l) = Cert.Words.lifted (a (ix2 t 0)) := by
  unfold Cert.Words.lifted
  rw [← bc_at a t l]
  rfl

/-- The scale of a token's block. -/
theorem scale_at (k : Vec Ideal S1x128 .f32) (x : Vec Ideal S256x128 .bf16) (t : Fin 256) (l : Fin 128) :
    scaleBlk k x (ix2 t l) = Cert.Words.kScale (amaxBlk k x (ix2 t 0)) := by
  unfold Cert.Words.kScale
  rw [← lift_at _ t l, ← bits_at]
  generalize hb : bitsBlk (liftBlk (amaxBlk k x)) = b
  unfold scaleBlk
  rw [hb]
  rfl

/-- Quantising by a reciprocal word, clipped to the format's range. -/
theorem quant_at (z : FVec Ideal S256x128 .bf16) (b : IVec S256x128 32) (j : S256x128.Idx) :
    (truncf .fp8e4m3 (minimumf (broadcast S256x128 (Scalar.ofBits .bf16 0x43E0#16))
    (maximumf (broadcast S256x128 (Scalar.ofBits .bf16 0xC3E0#16))
      (mulf z (truncf .bf16 (bitcastToFloat .f32
        (subi (broadcast S256x128 2130706432#32) b)) bitsLt_bf16_f32)))) bitsLt_fp8e4m3_bf16 : FVec Ideal S256x128 .fp8e4m3) j
   = min (Ideal.ofBits .bf16 0x43E0#16) (max (Ideal.ofBits .bf16 0xC3E0#16)
      (z j * Ideal.ofBits .f32 (2130706432#32 - b j))) := by
  show FloatOps.minimumf (F := Ideal) _ (FloatOps.maximumf (F := Ideal) _ (FloatOps.mulf (F := Ideal) _ _)) = _
  rw [Ideal.minimumf_def, Ideal.maximumf_def, Ideal.mulf_def]
  have h1 : broadcast S256x128 (FloatOps.ofBits (F := Ideal) .bf16 17376#16) j = Ideal.ofBits .bf16 17376#16 := rfl
  have h2 : broadcast S256x128 (FloatOps.ofBits (F := Ideal) .bf16 50144#16) j = Ideal.ofBits .bf16 50144#16 := rfl
  have h3 : (truncf .bf16 (bitcastToFloat .f32 (subi (broadcast S256x128 2130706432#32) b)) bitsLt_bf16_f32 : FVec Ideal S256x128 .bf16) j
    = Ideal.ofBits .f32 (2130706432#32 - b j) := rfl
  rw [h1, h2, h3]

/-- The code of a token's channel. -/
theorem codes_at (k : Vec Ideal S1x128 .f32) (x : Vec Ideal S256x128 .bf16) (t : Fin 256) (l : Fin 128) :
    codesBlk k x (ix2 t l) = min (Ideal.ofBits .bf16 0x43E0#16) (max (Ideal.ofBits .bf16 0xC3E0#16)
      (xinBlk k x (ix2 t l) * Cert.Words.kInv (amaxBlk k x (ix2 t 0)))) := by
  unfold codesBlk Cert.Words.kInv
  rw [← lift_at _ t l, ← bits_at]
  exact quant_at _ _ _

/-- The combined tile: a kept channel is dequantised, an outlier channel is the input. -/
theorem comb_at (k : Vec Ideal S1x128 .f32) (x : Vec Ideal S256x128 .bf16) (t : Fin 256) (l : Fin 128) :
    combBlk k x (ix2 t l) = if (0 : EReal) < k (ix2 0 l) then (codesBlk k x (ix2 t l) * scaleBlk k x (ix2 t l) : EReal)
      else x (ix2 t l) := by
  unfold combBlk maskBlk
  pointwise []

/-- Lane `j` of the scales is the scale of block `j`. -/
theorem lanes_at (s : Fin 28 → FVec Ideal S256x128 .bf16) (t : Fin 256) (j : Fin 128) : ∀ (n : ℕ) (h : n ≤ 28),
    lanes s n h (ix2 t j) = if hj : (j : ℕ) < n then s ⟨j, by omega⟩ (ix2 t j) else (0 : EReal)
  | 0, _ => by
    unfold lanes
    pointwise []
    rw [dif_neg (Nat.not_lt_zero _)]
  | n + 1, h => by
    have hc : cmpi .eq (iota .tc S256x128 32 [1] iota_S256x128_d1_w32) (broadcast S256x128 (BitVec.ofNat 32 n)) (ix2 t j)
        = BitVec.ofBool (decide ((j : ℕ) = n)) := by
      have hj := j.isLt
      pointwise [IntOp.cmpi]
      congr 1
      rw [Bool.eq_iff_iff]
      simp only [beq_iff_eq, decide_eq_true_eq]
      rw [← BitVec.toNat_inj, BitVec.toNat_ofNat, BitVec.toNat_ofNat]
      omega
    unfold lanes
    show Scalar.select _ _ _ = _
    rw [hc, lanes_at s t j n]
    by_cases hj : (j : ℕ) = n
    · subst hj
      simp [Scalar.select]
    · by_cases hl : (j : ℕ) < n
      · rw [dif_pos hl, dif_pos (by omega)]
        simp [Scalar.select, hj]
      · rw [dif_neg hl, dif_neg (by omega)]
        simp [Scalar.select, hj]

/-- Channel `256 q + k` of the one-hot rows: one where the row's outlier channel is that channel. -/
theorem hot_at (q : Fin 14) (idx : Vec Ideal S128x1 .i32) (j : Fin 128) (k : Fin 256) :
    hotTile q idx (ix2 j k) = if idx (ix2 j 0) = BitVec.ofNat 32 (256 * (q : ℕ) + k) then (1 : EReal) else 0 := by
  pointwise [hotTile]
  rw [show IntOp.addi (BitVec.ofNat 32 (256 * (q : ℕ))) (BitVec.ofNat 32 (k : ℕ)) = BitVec.ofNat 32 (256 * (q : ℕ) + k) from
    (BitVec.ofNat_add _ _).symm]
  generalize BitVec.ofNat 32 (256 * (q : ℕ) + k) = w
  by_cases h : idx (ix2 j 0) = w
  · rw [if_pos h]
    show ((((BitVec.setWidth 32 (BitVec.ofBool (idx (ix2 j 0) == w))).toInt : ℤ) : ℝ) : EReal) = 1
    rw [show (idx (ix2 j 0) == w) = true from beq_iff_eq.mpr h]
    simp
  · rw [if_neg h]
    show ((((BitVec.setWidth 32 (BitVec.ofBool (idx (ix2 j 0) == w))).toInt : ℤ) : ℝ) : EReal) = 0
    rw [show (idx (ix2 j 0) == w) = false from beq_eq_false_iff_ne.mpr h]
    simp

theorem ofBits_negInf_f32 : Ideal.ofBits .f32 0xFF800000#32 = (⊥ : EReal) := by
  simp [Ideal.ofBits, Ideal.ieee]

/-- The largest of ones and zeros is one exactly where some of them is one. -/
theorem fold_max_hot (p : Fin 128 → Prop) [DecidablePred p] :
    Finset.univ.fold max (⊥ : EReal) (fun i => if p i then (1 : EReal) else 0) = if ∃ i, p i then 1 else 0 := by
  have hs : Finset.univ.fold max (⊥ : EReal) (fun i => if p i then (1 : EReal) else 0)
      = Finset.univ.sup fun i => if p i then (1 : EReal) else 0 := rfl
  rw [hs]
  apply le_antisymm
  · apply Finset.sup_le
    intro i _
    by_cases h : p i
    · rw [if_pos h, if_pos ⟨i, h⟩]
    · rw [if_neg h]
      split_ifs
      · exact zero_le_one
      · exact le_rfl
  · split_ifs with h
    · obtain ⟨i, hi⟩ := h
      refine le_trans ?_ (Finset.le_sup (Finset.mem_univ i))
      simp [hi]
    · refine le_trans ?_ (Finset.le_sup (Finset.mem_univ (0 : Fin 128)))
      have := fun i => not_exists.mp h i
      simp [this]

theorem sub_self_one : (1 : EReal) - 1 = 0 := by
  rw [← EReal.coe_one, ← EReal.coe_sub, sub_self, EReal.coe_zero]

/-- Channel `256 q + k` of the kept channels: zero where it is one of the outlier channels, one elsewhere. -/
theorem keep_at (q : Fin 14) (idx : Vec Ideal S128x1 .i32) (j : Fin 1) (k : Fin 256) :
    keepTile q idx (ix2 j k) = if ∃ i : Fin 128, idx (ix2 i 0) = BitVec.ofNat 32 (256 * (q : ℕ) + k) then (0 : EReal) else 1 := by
  pointwise [keepTile]
  simp only [hot_at]
  rw [ofBits_negInf_f32, fold_max_hot]
  split_ifs
  · exact sub_self_one
  · exact sub_zero _

/-- The placed rows: the rows whose outlier channel is this channel, summed. -/
theorem rows_at (q : Fin 14) (idx : Vec Ideal S128x1 .i32) (wo : Vec Ideal S128x896 .bf16) (j : Fin 896) (k : Fin 256) :
    rowsTile q idx wo (ix2 j k)
      = ∑ i : Fin 128, (wo (ix2 i j) * if idx (ix2 i 0) = BitVec.ofNat 32 (256 * (q : ℕ) + k) then 1 else 0 : EReal) := by
  pointwise [rowsTile]
  simp only [hot_at]

/-- A block of the transposed weights. -/
theorem weight_at (n : Fin 7) (h : Fin 2) (keep : Vec Ideal S1x256 .f32) (rows : FVec Ideal S896x256 .f32)
    (codes : Vec Ideal S128x128 .fp8e4m3) (s : EReal) (j k : Fin 128) :
    weightBlk n h keep rows codes s (ix2 j k)
      = if (0 : EReal) < keep (ix2 0 ⟨128 * (h : ℕ) + k, by omega⟩) then (codes (ix2 k j) * s : EReal)
        else rows (ix2 ⟨128 * (n : ℕ) + j, by omega⟩ ⟨128 * (h : ℕ) + k, by omega⟩) := by
  pointwise [weightBlk]

/-- The product of the combined tile with the weights. -/
theorem prod_at (w : Vec Ideal S896x3584 .bf16) (x : Vec Ideal S256x3584 .bf16) (t : Fin 256) (n : Fin 896) :
    k0_pay6 w x (ix2 t n) = ∑ k : Fin 3584, (w (ix2 n k) * x (ix2 t k) : EReal) := by
  pointwise [k0_pay6]

end Cert.KernelIdeal.Gen

end
-- ==== Proof.ArrAt.lean ====
/- The kernel's arrays read at an index over the extended reals: each is the token's or the weights' common value. -/
module

public import proofs.«01_k».proof.Proof.Spec
public import proofs.«01_k».proof.Proof.Arr
public import proofs.«01_k».proof.Proof.At

@[expose] public section

set_option maxRecDepth 16384

noncomputable section

namespace Cert.KernelIdeal.Gen

open Idealize.ShloMosaic Idealize.SL.Sem
open Cert.Words (Out)

/-- The outlier channels of a column of channel numbers. -/
def chans (idx : Vec Ideal S128x1 .i32) : Fin 128 → BitVec 32 := fun k => idx (ix2 k 0)

/-- A kept channel reads one and an outlier zero. -/
theorem keepArr_at (idx : Vec Ideal S128x1 .i32) (d : Fin 3584) :
    keepArr (F := Ideal) idx (ix2 0 d) = if Out (chans idx) d then (0 : EReal) else 1 := by
  refine (keep_at (⟨(d : ℕ) / 256, by omega⟩ : Fin 14) idx 0 (⟨(d : ℕ) % 256, by omega⟩ : Fin 256)).trans ?_
  have h : 256 * ((d : ℕ) / 256) + (d : ℕ) % 256 = d := Nat.div_add_mod _ _
  simp only [h]
  exact if_congr Iff.rfl rfl rfl

/-- A channel is kept exactly where it is no outlier. -/
theorem keepArr_pos (idx : Vec Ideal S128x1 .i32) (d : Fin 3584) : (0 : EReal) < keepArr (F := Ideal) idx (ix2 0 d) ↔ ¬ Out (chans idx) d := by
  rw [keepArr_at]
  split
  · exact iff_of_false (lt_irrefl _) (not_not.2 ‹_›)
  · exact iff_of_true zero_lt_one ‹_›

/-- A block's masked input is the token with its outliers set to zero. -/
theorem xinB_at (idx : Vec Ideal S128x1 .i32) (x : Vec Ideal S256x3584 .bf16) (t : Fin 256) (b : Fin 28) (l : Fin 128) :
    xinBlk (keepB (keepArr idx) b) (tileB x b) (ix2 t l) = Words.xin (chans idx) (fun d => x (ix2 t d)) (chan b l) := by
  rw [xin_at]
  show (if (0 : EReal) < keepArr (F := Ideal) idx (ix2 0 (chan b l)) then x (ix2 t (chan b l)) else (0 : EReal)) = _
  unfold Words.xin
  by_cases h : Out (chans idx) (chan b l)
  · rw [if_pos h, if_neg (mt (keepArr_pos idx _).1 (not_not.2 h))]
  · rw [if_neg h, if_pos ((keepArr_pos idx _).2 h)]

/-- A block's greatest magnitude. -/
theorem amaxB_at (idx : Vec Ideal S128x1 .i32) (x : Vec Ideal S256x3584 .bf16) (t : Fin 256) (b : Fin 28) :
    amaxBlk (keepB (keepArr idx) b) (tileB x b) (ix2 t 0) = Words.amax (chans idx) (fun d => x (ix2 t d)) b := by
  rw [amax_at, show Ideal.ofBits .bf16 0xFF80#16 = (⊥ : EReal) by simp [Ideal.ofBits, Ideal.ieee]]
  simp only [xinB_at]
  rfl

theorem max_code : Ideal.ofBits .bf16 0x43E0#16 = Ideal.ofBits .f32 0x43E00000#32 := by
  simp [Ideal.ofBits, Ideal.ieee]
  rw [← EReal.coe_mul, ← EReal.coe_mul]
  norm_num
theorem min_code : Ideal.ofBits .bf16 0xC3E0#16 = Ideal.ofBits .f32 0xC3E00000#32 := by
  simp [Ideal.ofBits, Ideal.ieee]
  rw [← EReal.coe_mul, ← EReal.coe_mul]
  norm_num

/-- The tile's codes are the tokens' codes. -/
theorem codesArr_at (idx : Vec Ideal S128x1 .i32) (x : Vec Ideal S256x3584 .bf16) (t : Fin 256) (d : Fin 3584) :
    codesArr (F := Ideal) (keepArr idx) x (ix2 t d) = Words.code (chans idx) (fun d => x (ix2 t d)) d := by
  refine (codes_at (keepB (keepArr idx) (blkC d)) (tileB x (blkC d)) t (laneC d)).trans ?_
  rw [xinB_at, amaxB_at, max_code, min_code, chan_blkC]
  rfl

/-- A block's scale is the token's scale. -/
theorem scaleB_at (idx : Vec Ideal S128x1 .i32) (x : Vec Ideal S256x3584 .bf16) (t : Fin 256) (b : Fin 28) (l : Fin 128) :
    scaleBlk (keepB (keepArr idx) b) (tileB x b) (ix2 t l) = Words.scale (chans idx) (fun d => x (ix2 t d)) b := by
  rw [scale_at, amaxB_at]
  rfl

/-- The tile that enters the product. -/
theorem combArr_at (idx : Vec Ideal S128x1 .i32) (x : Vec Ideal S256x3584 .bf16) (t : Fin 256) (d : Fin 3584) :
    combArr (F := Ideal) (keepArr idx) x (ix2 t d) = Words.comb (chans idx) (fun d => x (ix2 t d)) d := by
  refine (comb_at (keepB (keepArr idx) (blkC d)) (tileB x (blkC d)) t (laneC d)).trans ?_
  have hc : codesBlk (keepB (keepArr idx) (blkC d)) (tileB x (blkC d)) (ix2 t (laneC d)) = Words.code (chans idx) (fun d => x (ix2 t d)) d :=
    codesArr_at idx x t d
  have hk : keepB (keepArr (F := Ideal) idx) (blkC d) (ix2 0 (laneC d)) = keepArr (F := Ideal) idx (ix2 0 d) :=
    congrArg (fun e => keepArr (F := Ideal) idx (ix2 0 e)) (chan_blkC d)
  have hx : tileB x (blkC d) (ix2 t (laneC d)) = x (ix2 t d) := congrArg (fun e => x (ix2 t e)) (chan_blkC d)
  rw [hc, scaleB_at, hk, hx]
  unfold Words.comb
  by_cases h : Out (chans idx) d
  · rw [if_pos h, if_neg (mt (keepArr_pos idx _).1 (not_not.2 h))]
  · rw [if_neg h, if_pos ((keepArr_pos idx _).2 h)]
    rfl

/-- The tile's scales are the tokens' scales. -/
theorem scaleArr_at (idx : Vec Ideal S128x1 .i32) (x : Vec Ideal S256x3584 .bf16) (t : Fin 256) (b : Fin 28) :
    scaleArr (F := Ideal) (keepArr idx) x (ix2 t b) = Words.scale (chans idx) (fun d => x (ix2 t d)) b := by
  have e : scaleArr (F := Ideal) (keepArr idx) x (ix2 t b)
      = lanes (fun b => scaleBlk (keepB (keepArr idx) b) (tileB x b)) 28 le_rfl (ix2 t (⟨(b : ℕ), by omega⟩ : Fin 128)) := by
    unfold scaleArr
    pointwise []
  rw [e, lanes_at, dif_pos b.isLt]
  exact scaleB_at idx x t b _

/-- The transposed weights hold each output's weight of each channel. -/
theorem weightArr_at (idx : Vec Ideal S128x1 .i32) (wo : Vec Ideal S128x896 .bf16) (wc : Vec Ideal S3584x896 .fp8e4m3) (ws : Vec Ideal S28x7 .f32)
    (n : Fin 896) (d : Fin 3584) :
    weightArr (F := Ideal) idx wo wc ws (ix2 n d)
      = Words.weight (chans idx) (fun k => wo (ix2 k n)) (fun d => wc (ix2 d n)) (fun b => ws (ix2 b ⟨(n : ℕ) / 128, by omega⟩)) d := by
  set p : Fin 196 := storeOf n d with hp
  have hv : (p : ℕ) = (d : ℕ) / 128 * 7 + (n : ℕ) / 128 := rfl
  refine (weight_at (outOf p) (halfOf p) (keepT (keepArr idx) (tileOf p)) (rowsTile (tileOf p) idx wo) (codesW wc p) (scaleW ws p)
    (⟨(n : ℕ) % 128, by omega⟩ : Fin 128) (⟨(d : ℕ) % 128, by omega⟩ : Fin 128)).trans ?_
  have hk : keepT (keepArr (F := Ideal) idx) (tileOf p) (ix2 0 ⟨128 * (halfOf p : ℕ) + (d : ℕ) % 128, by omega⟩) = keepArr (F := Ideal) idx (ix2 0 d) :=
    congrArg (fun e => keepArr (F := Ideal) idx (ix2 0 e)) (Fin.ext (by
      show 256 * ((p : ℕ) / 14) + (128 * ((p : ℕ) / 7 % 2) + (d : ℕ) % 128) = (d : ℕ)
      omega))
  have hc : codesW wc p (ix2 (⟨(d : ℕ) % 128, by omega⟩ : Fin 128) (⟨(n : ℕ) % 128, by omega⟩ : Fin 128)) = wc (ix2 d n) :=
    congrArg₂ (fun a b => wc (ix2 a b)) (Fin.ext (by show 128 * ((p : ℕ) / 7) + (d : ℕ) % 128 = (d : ℕ); omega))
      (Fin.ext (by show 128 * ((p : ℕ) % 7) + (n : ℕ) % 128 = (n : ℕ); omega))
  have hs : scaleW ws p = ws (ix2 (Words.blk d) ⟨(n : ℕ) / 128, by omega⟩) :=
    congrArg₂ (fun a b => ws (ix2 a b)) (Fin.ext (by show (p : ℕ) / 7 = (d : ℕ) / 128; omega))
      (Fin.ext (by show (p : ℕ) % 7 = (n : ℕ) / 128; omega))
  have hn : (⟨128 * (outOf p : ℕ) + (n : ℕ) % 128, by omega⟩ : Fin 896) = n :=
    Fin.ext (by show 128 * ((p : ℕ) % 7) + (n : ℕ) % 128 = (n : ℕ); omega)
  have hr : 256 * (tileOf p : ℕ) + (128 * (halfOf p : ℕ) + (d : ℕ) % 128) = d := by
    show 256 * ((p : ℕ) / 14) + (128 * ((p : ℕ) / 7 % 2) + (d : ℕ) % 128) = (d : ℕ)
    omega
  rw [hk, hc, hs, rows_at]
  simp only [hn, hr]
  unfold Words.weight
  by_cases h : Out (chans idx) d
  · rw [if_pos h, if_neg (mt (keepArr_pos idx _).1 (not_not.2 h))]
    rfl
  · rw [if_neg h, if_pos ((keepArr_pos idx _).2 h)]

end Cert.KernelIdeal.Gen

end
-- ==== Proof.Out.lean ====
/- The loads of one grid point as plain parts of its inputs, and what the point leaves in each buffer: the codes, the scales
   and the product of its tile, and at the first point the kept channels and the transposed weights. -/
module

public import proofs.«01_k».proof.Proof.Arr

@[expose] public section

set_option maxRecDepth 16384

noncomputable section

namespace Cert.KernelIdeal.Gen

open Idealize.ShloMosaic Idealize.ShloMosaic.TcCoe Idealize.SL Idealize.SL.Sem

variable {F : FTy → Type} [FloatOps F]

/-- Each stored block of the transposed weights is that block of them. -/
theorem weightOf_eq (idx : Vec F S128x1 .i32) (wo : Vec F S128x896 .bf16) (wc : Vec F S3584x896 .fp8e4m3) (ws : Vec F S28x7 .f32)
    (p : Fin 196) (z : S128x128.Idx) : weightOf idx wo wc ws p z = weightArr idx wo wc ws ((rectW p).emb z) := by
  obtain ⟨t, l, rfl⟩ : ∃ (t : Fin 128) (l : Fin 128), z = ix2 t l := ⟨z 0, z 1, eq_ix2 z⟩
  rw [emb_rectW]
  have hp : storeOf ⟨128 * ((p : ℕ) % 7) + t, by omega⟩ ⟨128 * ((p : ℕ) / 7) + l, by omega⟩ = p :=
    Fin.ext (by simp only [storeOf]; omega)
  have ht : (⟨(128 * ((p : ℕ) % 7) + t) % 128, by omega⟩ : Fin 128) = t := Fin.ext (by simp only []; omega)
  have hl : (⟨(128 * ((p : ℕ) / 7) + l) % 128, by omega⟩ : Fin 128) = l := Fin.ext (by simp only []; omega)
  show _ = weightOf idx wo wc ws (storeOf ⟨128 * ((p : ℕ) % 7) + t, by omega⟩ ⟨128 * ((p : ℕ) / 7) + l, by omega⟩)
    (ix2 (⟨(128 * ((p : ℕ) % 7) + t) % 128, by omega⟩ : Fin 128) (⟨(128 * ((p : ℕ) / 7) + l) % 128, by omega⟩ : Fin 128))
  rw [hp, ht, hl]

/-- The weights' stores leave the transposed weights. -/
theorem canon_weights (idx : Vec F S128x1 .i32) (wo : Vec F S128x896 .bf16) (wc : Vec F S3584x896 .fp8e4m3) (ws : Vec F S28x7 .f32) :
    View.canon (down (fun p => (⟨rectW p, weightOf idx wo wc ws p⟩ : View.Piece (Elt F) S896x3584 .bf16)) 196 le_rfl)
      = weightArr idx wo wc ws := by
  funext y
  refine canon_down _ _ (fun p z => weightOf_eq idx wo wc ws p z) 196 le_rfl y (storeOf (y 0) (y 1)) (storeOf (y 0) (y 1)).isLt ?_
  have h := mem_rectW (y 0) (y 1)
  rw [← eq_ix2 y] at h
  exact h

section
variable (c : Dev nD) (i : grid0.Coords) (arg1 : Memref sig .tc .vmem S128x1 .i32) (harg1 : arg1.IsWhole) (arg2 : Memref sig .tc .vmem S128x896 .bf16) (harg2 : arg2.IsWhole) (arg3 : Memref sig .tc .vmem S3584x896 .fp8e4m3) (harg3 : arg3.IsWhole) (arg4 : Memref sig .tc .smem S28x7 .f32) (harg4 : arg4.IsWhole) (arg5 : Memref sig .tc .vmem S256x3584 .bf16) (harg5 : arg5.IsWhole) (arg6 : Memref sig .tc .vmem S256x896 .bf16) (harg6 : arg6.IsWhole) (arg7 : Memref sig .tc .vmem S256x3584 .fp8e4m3) (harg7 : arg7.IsWhole) (arg8 : Memref sig .tc .vmem S256x28 .f32) (harg8 : arg8.IsWhole) (arg9 : Memref sig .tc .vmem S896x3584 .bf16) (harg9 : arg9.IsWhole) (arg10 : Memref sig .tc .vmem S1x3584 .f32) (harg10 : arg10.IsWhole) (arg11 : Memref sig .tc .vmem S256x3584 .bf16) (harg11 : arg11.IsWhole)
    (x0 : Vec F S128x1 .i32) (x1 : Vec F S128x896 .bf16) (x2 : Vec F S3584x896 .fp8e4m3) (x3 : Vec F S28x7 .f32) (x4 : Vec F S256x3584 .bf16) (xs0 : Vec F S896x3584 .bf16) (xs1 : Vec F S1x3584 .f32)

theorem ldI_eq : ldI arg1 harg1 x0 = x0 := funext fun z => by
  unfold ldI
  exact (harg1.readAt_unread _ _ _).trans (congrArg x0 (emb_origin _ (fun a => by fin_cases a <;> rfl) _ z))
theorem ldO_eq : ldO arg2 harg2 x1 = x1 := funext fun z => by
  unfold ldO
  exact (harg2.readAt_unread _ _ _).trans (congrArg x1 (emb_origin _ (fun a => by fin_cases a <;> rfl) _ z))
theorem ldC_eq (p : Fin 196) : ldC arg3 harg3 x2 p = codesW x2 p := funext fun z => by
  obtain ⟨t, l, rfl⟩ : ∃ (t : Fin 128) (l : Fin 128), z = ix2 t l := ⟨z 0, z 1, eq_ix2 z⟩
  unfold ldC
  exact (harg3.readAt_unread _ _ _).trans (congrArg x2 (emb_rectC p t l))
theorem ldS_eq (p : Fin 196) : ldS arg4 harg4 x3 p = scaleW x3 p := by
  unfold ldS
  refine (harg4.readAt_unread _ _ _).trans (congrArg x3 ?_)
  exact (congrArg (rectS p).emb (eq_ix2 (Shape.Idx.first (s := S1x1) (by decide)))).trans (emb_rectS p _ _)
theorem ldX_eq : ldX arg5 harg5 x4 = tileB x4 := funext fun b => funext fun z => by
  obtain ⟨t, l, rfl⟩ : ∃ (t : Fin 256) (l : Fin 128), z = ix2 t l := ⟨z 0, z 1, eq_ix2 z⟩
  unfold ldX
  exact (harg5.readAt_unread _ _ _).trans (congrArg x4 (emb_rectX b t l))
theorem ldK_eq : ldK arg10 harg10 xs1 = keepB xs1 := funext fun b => funext fun z => by
  obtain ⟨t, l, rfl⟩ : ∃ (t : Fin 1) (l : Fin 128), z = ix2 t l := ⟨z 0, z 1, eq_ix2 z⟩
  obtain rfl : t = 0 := Subsingleton.elim _ _
  unfold ldK
  exact (harg10.readAt_unread _ _ _).trans (congrArg xs1 (emb_rectK b 0 l))
theorem ldKA_eq : ldKA arg1 harg1 arg10 x0 = keepB (keepArr x0) := funext fun b => funext fun z => by
  obtain ⟨t, l, rfl⟩ : ∃ (t : Fin 1) (l : Fin 128), z = ix2 t l := ⟨z 0, z 1, eq_ix2 z⟩
  obtain rfl : t = 0 := Subsingleton.elim _ _
  unfold ldKA
  rw [View.readCov_eq_canon', ldI_eq]
  refine (congrArg _ (emb_rectK b 0 l)).trans ?_
  exact canon_keep x0 14 le_rfl 0 _ (by have := (chan b l).isLt; omega)
theorem ldT_eq (q : Fin 14) : ldT arg1 harg1 arg10 x0 q = keepT (keepArr x0) q := funext fun z => by
  obtain ⟨t, l, rfl⟩ : ∃ (t : Fin 1) (l : Fin 256), z = ix2 t l := ⟨z 0, z 1, eq_ix2 z⟩
  obtain rfl : t = 0 := Subsingleton.elim _ _
  unfold ldT
  rw [View.readCov_eq_canon', ldI_eq]
  refine (congrArg _ (emb_rectT q 0 l)).trans ?_
  exact canon_keep x0 (q + 1) q.isLt 0 _ (by have := l.isLt; simp only []; omega)
theorem weightPiece_eq : weightPiece arg1 harg1 arg2 harg2 arg3 harg3 arg4 harg4 arg10 x0 x1 x2 x3
    = fun p => (⟨rectW p, weightOf x0 x1 x2 x3 p⟩ : View.Piece (Elt F) S896x3584 .bf16) := funext fun p => by
  unfold weightPiece weightOf
  rw [ldT_eq, ldI_eq, ldO_eq, ldC_eq, ldS_eq]
theorem ldXC_eq (keep : Vec F S1x3584 .f32) : ldXC arg11 (keepB keep) (tileB x4) = combArr keep x4 := funext fun z => by
  unfold ldXC
  rw [View.readCov_eq_canon', canon_comb]
  exact congrArg (combArr keep x4) (emb_origin _ (fun a => by fin_cases a <;> rfl) _ z)
theorem ldW_eq : arg9.view.readAt (Elt F) (Rect.unit (s := S896x3584) ![0, 0] S896x3584.size inb_S896x3584_S896x3584_0_0).toLoadRect (harg9.unread xs0)
    = xs0 := funext fun z => by
  exact (harg9.readAt_unread _ _ _).trans (congrArg xs0 (emb_origin _ (fun a => by fin_cases a <;> rfl) _ z))

/-- A store of the whole block leaves its payload. -/
theorem canon_whole {S : Shape} {e : EltTy} (off : Fin S.rank → ℕ) (h0 : ∀ a, off a = 0) (inb) (v : S.Idx → Elt F e) :
    View.canon [(⟨Rect.unit (s := S) off S.size inb, v⟩ : View.Piece (Elt F) S e)] = v := funext fun y => by
  refine View.canon_apply_of_pieces v _ (fun p hp z => ?_) y ⟨_, List.mem_singleton_self _, ?_⟩
  · obtain rfl := List.mem_singleton.mp hp
    exact congrArg v (emb_origin off h0 inb z).symm
  · have h := emb_mem (Rect.unit (s := S) off S.size inb) y
    rw [emb_origin off h0 inb y] at h
    exact h

section
variable (hc0 : ¬cond0_0 i)

/-- A later point leaves its tile's codes. -/
theorem out_B_6 : out0_B_6 c i arg1 harg1 arg2 harg2 arg3 harg3 arg4 harg4 arg5 harg5 arg6 harg6 arg7 harg7 arg8 harg8 arg9 harg9 arg10 harg10 arg11 harg11 hc0 x0 x1 x2 x3 x4 xs0 xs1 = codesArr xs1 x4 := by
  unfold out0_B_6
  rw [View.read_writes_junk_eq_canon, codes_B, ldK_eq, ldX_eq, canon_codes]
/-- A later point leaves its tile's scales. -/
theorem out_B_7 : out0_B_7 c i arg1 harg1 arg2 harg2 arg3 harg3 arg4 harg4 arg5 harg5 arg6 harg6 arg7 harg7 arg8 harg8 arg9 harg9 arg10 harg10 arg11 harg11 hc0 x0 x1 x2 x3 x4 xs0 xs1 = scaleArr xs1 x4 := by
  unfold out0_B_7
  rw [View.read_writes_junk_eq_canon, scale_B, ldK_eq, ldX_eq]
  exact canon_whole _ (fun a => by fin_cases a <;> rfl) _ _
/-- A later point leaves the product of its combined tile with the weights it found. -/
theorem out_B_5 : out0_B_5 c i arg1 harg1 arg2 harg2 arg3 harg3 arg4 harg4 arg5 harg5 arg6 harg6 arg7 harg7 arg8 harg8 arg9 harg9 arg10 harg10 arg11 harg11 hc0 x0 x1 x2 x3 x4 xs0 xs1 = k0_pay6 xs0 (combArr xs1 x4) := by
  unfold out0_B_5
  rw [View.read_writes_junk_eq_canon, prod_B, ldK_eq, ldX_eq, ldXC_eq, ldW_eq]
  exact canon_whole _ (fun a => by fin_cases a <;> rfl) _ _
end

section
variable (hc0 : cond0_0 i)

/-- The first point leaves the kept channels. -/
theorem sout_A_1 : sout0_A_1 c i arg1 harg1 arg2 harg2 arg3 harg3 arg4 harg4 arg5 harg5 arg6 harg6 arg7 harg7 arg8 harg8 arg9 harg9 arg10 harg10 arg11 harg11 hc0 x0 x1 x2 x3 x4 = keepArr x0 := by
  unfold sout0_A_1
  rw [View.read_writes_junk_eq_canon, keep_A, ldI_eq]
  funext y
  rw [eq_ix2 y]
  exact canon_keep x0 14 le_rfl _ _ (by have : (y 1 : ℕ) < 3584 := (y 1).isLt; omega)
/-- The first point leaves the transposed weights. -/
theorem sout_A_0 : sout0_A_0 c i arg1 harg1 arg2 harg2 arg3 harg3 arg4 harg4 arg5 harg5 arg6 harg6 arg7 harg7 arg8 harg8 arg9 harg9 arg10 harg10 arg11 harg11 hc0 x0 x1 x2 x3 x4 = weightArr x0 x1 x2 x3 := by
  unfold sout0_A_0
  rw [View.read_writes_junk_eq_canon, weights_A, weightPiece_eq, canon_weights]
/-- The first point leaves its tile's codes. -/
theorem out_A_6 : out0_A_6 c i arg1 harg1 arg2 harg2 arg3 harg3 arg4 harg4 arg5 harg5 arg6 harg6 arg7 harg7 arg8 harg8 arg9 harg9 arg10 harg10 arg11 harg11 hc0 x0 x1 x2 x3 x4 = codesArr (keepArr x0) x4 := by
  unfold out0_A_6
  rw [View.read_writes_junk_eq_canon, codes_A, ldKA_eq, ldX_eq, canon_codes]
/-- The first point leaves its tile's scales. -/
theorem out_A_7 : out0_A_7 c i arg1 harg1 arg2 harg2 arg3 harg3 arg4 harg4 arg5 harg5 arg6 harg6 arg7 harg7 arg8 harg8 arg9 harg9 arg10 harg10 arg11 harg11 hc0 x0 x1 x2 x3 x4 = scaleArr (keepArr x0) x4 := by
  unfold out0_A_7
  rw [View.read_writes_junk_eq_canon, scale_A, ldKA_eq, ldX_eq]
  exact canon_whole _ (fun a => by fin_cases a <;> rfl) _ _
/-- The first point leaves the product of its combined tile with the weights it prepared. -/
theorem out_A_5 : out0_A_5 c i arg1 harg1 arg2 harg2 arg3 harg3 arg4 harg4 arg5 harg5 arg6 harg6 arg7 harg7 arg8 harg8 arg9 harg9 arg10 harg10 arg11 harg11 hc0 x0 x1 x2 x3 x4 = k0_pay6 (weightArr x0 x1 x2 x3) (combArr (keepArr x0) x4) := by
  unfold out0_A_5
  rw [View.read_writes_junk_eq_canon, prod_A, ldKA_eq, ldX_eq, ldXC_eq, weightPiece_eq, View.readCov_eq_canon', canon_weights]
  refine (canon_whole _ (fun a => by fin_cases a <;> rfl) _ _).trans ?_
  refine congrArg (fun w => k0_pay6 w (combArr (keepArr x0) x4)) (funext fun z => ?_)
  exact congrArg (weightArr x0 x1 x2 x3) (emb_origin _ (fun a => by fin_cases a <;> rfl) _ z)
end
end

end Cert.KernelIdeal.Gen

end
-- ==== Proof.Carry.lean ====
/- What every grid point leaves, and so what the kernel's results hold: the first point prepares the kept channels and the
   transposed weights once, every later point finds them as they were, and each point computes its tile of 256 tokens. -/
module

public import proofs.«01_k».proof.Proof.Out
public import proofs.«01_k».proof.Proof.Gen.KernelIdeal.Value

@[expose] public section

set_option maxRecDepth 16384

noncomputable section

namespace Cert.KernelIdeal.Gen

open Idealize.ShloMosaic Idealize.ShloMosaic.TcCoe Idealize.SL Idealize.SL.Sem

variable {F : FTy → Type} [FloatOps F]
variable (m : (ℓ : Loc nD τ sig) → Buf (Elt F) ℓ)

/-- The outlier channels, as a column. -/
abbrev inI (c : Dev nD) : Vec F S128x1 .i32 := V m c main_v0
/-- The outlier weight rows. -/
abbrev inO (c : Dev nD) : Vec F S128x896 .bf16 := m ((c : Thread nD τ).loc main_arg2)
/-- The weight codes. -/
abbrev inC (c : Dev nD) : Vec F S3584x896 .fp8e4m3 := m ((c : Thread nD τ).loc main_arg3)
/-- The weight scales. -/
abbrev inS (c : Dev nD) : Vec F S28x7 .f32 := m ((c : Thread nD τ).loc main_arg4)
/-- The tokens, one to a row. -/
abbrev inX (c : Dev nD) : Vec F S16384x3584 .bf16 := V m c main_v1

/-- The tile of tokens of point `n`. -/
def tileX (c : Dev nD) (n : Fin 64) : Vec F S256x3584 .bf16 := fun y =>
  inX m c (ix2 ⟨256 * (n : ℕ) + (y 0 : ℕ), by have : (y 0 : ℕ) < 256 := (y 0).isLt; omega⟩ (y 1))

theorem iblk_0 (c : Dev nD) (t : Fin cfg0.N) : iblk m c 0 t = inI m c := by
  obtain ⟨e0, e1⟩ := (by decide +kernel : ∀ t : Fin grid0.N, win0_0.index t (0 : Fin 2) = 0 ∧ win0_0.index t (1 : Fin 2) = 0) t
  funext y
  show inI m c (((cfg0.win 0).blk t).view.emb y) = inI m c y
  refine congrArg (inI m c) (funext fun a => Fin.ext ?_)
  match a with
  | ⟨0, _⟩ => show win0_0.index t (0 : Fin 2) * 128 + 1 * (y 0).val = (y 0).val; omega
  | ⟨1, _⟩ => show win0_0.index t (1 : Fin 2) * 1 + 1 * (y 1).val = (y 1).val; omega
theorem iblk_1 (c : Dev nD) (t : Fin cfg0.N) : iblk m c 1 t = inO m c := by
  obtain ⟨e0, e1⟩ := (by decide +kernel : ∀ t : Fin grid0.N, win0_1.index t (0 : Fin 2) = 0 ∧ win0_1.index t (1 : Fin 2) = 0) t
  funext y
  rw [← show V m c main_arg2 = inO m c from V_main_arg2 m c]
  show V m c main_arg2 (((cfg0.win 1).blk t).view.emb y) = V m c main_arg2 y
  refine congrArg (V m c main_arg2) (funext fun a => Fin.ext ?_)
  match a with
  | ⟨0, _⟩ => show win0_1.index t (0 : Fin 2) * 128 + 1 * (y 0).val = (y 0).val; omega
  | ⟨1, _⟩ => show win0_1.index t (1 : Fin 2) * 896 + 1 * (y 1).val = (y 1).val; omega
theorem iblk_2 (c : Dev nD) (t : Fin cfg0.N) : iblk m c 2 t = inC m c := by
  obtain ⟨e0, e1⟩ := (by decide +kernel : ∀ t : Fin grid0.N, win0_2.index t (0 : Fin 2) = 0 ∧ win0_2.index t (1 : Fin 2) = 0) t
  funext y
  rw [← show V m c main_arg3 = inC m c from V_main_arg3 m c]
  show V m c main_arg3 (((cfg0.win 2).blk t).view.emb y) = V m c main_arg3 y
  refine congrArg (V m c main_arg3) (funext fun a => Fin.ext ?_)
  match a with
  | ⟨0, _⟩ => show win0_2.index t (0 : Fin 2) * 3584 + 1 * (y 0).val = (y 0).val; omega
  | ⟨1, _⟩ => show win0_2.index t (1 : Fin 2) * 896 + 1 * (y 1).val = (y 1).val; omega
theorem iblk_3 (c : Dev nD) (t : Fin cfg0.N) : iblk m c 3 t = inS m c := by
  obtain ⟨e0, e1⟩ := (by decide +kernel : ∀ t : Fin grid0.N, win0_3.index t (0 : Fin 2) = 0 ∧ win0_3.index t (1 : Fin 2) = 0) t
  funext y
  rw [← show V m c main_arg4 = inS m c from V_main_arg4 m c]
  show V m c main_arg4 (((cfg0.win 3).blk t).view.emb y) = V m c main_arg4 y
  refine congrArg (V m c main_arg4) (funext fun a => Fin.ext ?_)
  match a with
  | ⟨0, _⟩ => show win0_3.index t (0 : Fin 2) * 28 + 1 * (y 0).val = (y 0).val; omega
  | ⟨1, _⟩ => show win0_3.index t (1 : Fin 2) * 7 + 1 * (y 1).val = (y 1).val; omega
theorem iblk_4 (c : Dev nD) (t : Fin cfg0.N) : iblk m c 4 t = tileX m c (t.cast N_0) := by
  obtain ⟨e0, e1⟩ := (by decide +kernel : ∀ t : Fin grid0.N, win0_4.index t (0 : Fin 2) = t.val ∧ win0_4.index t (1 : Fin 2) = 0) t
  funext y
  show inX m c (((cfg0.win 4).blk t).view.emb y) = inX m c _
  refine congrArg (inX m c) (funext fun a => Fin.ext ?_)
  match a with
  | ⟨0, _⟩ => show win0_4.index t (0 : Fin 2) * 256 + 1 * (y 0).val = 256 * t.val + (y 0).val; omega
  | ⟨1, _⟩ => show win0_4.index t (1 : Fin 2) * 3584 + 1 * (y 1).val = (y 1).val; omega

/-- The kept channels that the first point prepares. -/
abbrev kept (c : Dev nD) : Vec F S1x3584 .f32 := keepArr (inI m c)
/-- The transposed weights that the first point prepares. -/
abbrev weights (c : Dev nD) : Vec F S896x3584 .bf16 := weightArr (inI m c) (inO m c) (inC m c) (inS m c)

/-- After point `n`: its tile's product, codes and scales, and the two prepared scratches. -/
theorem outs (c : Dev nD) : ∀ (n : ℕ) (hn : n < cfg0.N), outsAt0 m c n hn
    = (k0_pay6 (weights m c) (combArr (kept m c) (tileX m c ⟨n, lt_of_lt_of_eq hn N_0⟩)),
       codesArr (kept m c) (tileX m c ⟨n, lt_of_lt_of_eq hn N_0⟩), scaleArr (kept m c) (tileX m c ⟨n, lt_of_lt_of_eq hn N_0⟩),
       weights m c, kept m c)
  | 0, hn => by
    have h := outsAt0_A m c ⟨0, hn⟩ (Nat.zero_mod _)
    rw [out_A_5, out_A_6, out_A_7, sout_A_0, sout_A_1, iblk_0, iblk_1, iblk_2, iblk_3, iblk_4] at h
    exact h
  | n + 1, hn => by
    have hN := lt_of_lt_of_eq hn N_0
    have h := outsAt0_B m c ⟨n + 1, hn⟩ (by show ¬(n + 1) % 64 = 0; omega)
    rw [out_B_5, out_B_6, out_B_7, iblk_4] at h
    have ih := outs c n (Nat.lt_of_succ_lt hn)
    have e : outsAt0 m c ((⟨n + 1, hn⟩ : Fin cfg0.N).val - 1) (Nat.lt_of_le_of_lt (Nat.sub_le _ _) hn)
        = outsAt0 m c n (Nat.lt_of_succ_lt hn) := rfl
    rw [e, ih] at h
    exact h

open Cert.KernelIdeal.Value

theorem accAt_outs (c : Dev nD) (n : ℕ) (hn : n < cfg0.N) (h : 0 + n < cfg0.N) :
    Pipeline.accAt (fun n h => stAt0 m c n h junk0) (stAt0 m c) 0 n h
    = (k0_pay6 (weights m c) (combArr (kept m c) (tileX m c ⟨n, lt_of_lt_of_eq hn N_0⟩)),
       codesArr (kept m c) (tileX m c ⟨n, lt_of_lt_of_eq hn N_0⟩), scaleArr (kept m c) (tileX m c ⟨n, lt_of_lt_of_eq hn N_0⟩),
       weights m c, kept m c) :=
  (outsAt0_sweep m c n hn).symm.trans (outs m c n hn)

/-- The first result: token `r`, output `n`. -/
theorem G5_at (c : Dev nD) (r : Fin 16384) (n : Fin 896) : G5 m c (ix2 r n)
    = k0_pay6 (weights m c) (combArr (kept m c) (tileX m c ⟨(r : ℕ) / 256, by omega⟩)) (ix2 ⟨(r : ℕ) % 256, by omega⟩ n) := by
  have hp : pt5Of (ix2 r n) = (r : ℕ) / 256 := by
    show 1 * ((r : ℕ) / 256 - 0) + 1 * ((n : ℕ) / 896 - 0) = _
    omega
  have hl : loc5Of (ix2 r n) = ix2 ⟨(r : ℕ) % 256, by omega⟩ n := funext fun a => Fin.ext <| match a with
    | ⟨0, _⟩ => rfl
    | ⟨1, _⟩ => Nat.mod_eq_of_lt n.isLt
  have hN : pt5Of (ix2 r n) < cfg0.N := by rw [hp, show cfg0.N = 64 from N_0]; omega
  unfold G5
  rw [dif_pos hN, accAt_outs m c _ hN, hl]
  simp only [hp]
/-- The second result: token `r`, channel `k`. -/
theorem G6_at (c : Dev nD) (r : Fin 16384) (n : Fin 3584) : G6 m c (ix2 r n)
    = codesArr (kept m c) (tileX m c ⟨(r : ℕ) / 256, by omega⟩) (ix2 ⟨(r : ℕ) % 256, by omega⟩ n) := by
  have hp : pt6Of (ix2 r n) = (r : ℕ) / 256 := by
    show 1 * ((r : ℕ) / 256 - 0) + 1 * ((n : ℕ) / 3584 - 0) = _
    omega
  have hl : loc6Of (ix2 r n) = ix2 ⟨(r : ℕ) % 256, by omega⟩ n := funext fun a => Fin.ext <| match a with
    | ⟨0, _⟩ => rfl
    | ⟨1, _⟩ => Nat.mod_eq_of_lt n.isLt
  have hN : pt6Of (ix2 r n) < cfg0.N := by rw [hp, show cfg0.N = 64 from N_0]; omega
  unfold G6
  rw [dif_pos hN, accAt_outs m c _ hN, hl]
  simp only [hp]
/-- The third result: token `r`, block `b`. -/
theorem G7_at (c : Dev nD) (r : Fin 16384) (n : Fin 28) : G7 m c (ix2 r n)
    = scaleArr (kept m c) (tileX m c ⟨(r : ℕ) / 256, by omega⟩) (ix2 ⟨(r : ℕ) % 256, by omega⟩ n) := by
  have hp : pt7Of (ix2 r n) = (r : ℕ) / 256 := by
    show 1 * ((r : ℕ) / 256 - 0) + 1 * ((n : ℕ) / 28 - 0) = _
    omega
  have hl : loc7Of (ix2 r n) = ix2 ⟨(r : ℕ) % 256, by omega⟩ n := funext fun a => Fin.ext <| match a with
    | ⟨0, _⟩ => rfl
    | ⟨1, _⟩ => Nat.mod_eq_of_lt n.isLt
  have hN : pt7Of (ix2 r n) < cfg0.N := by rw [hp, show cfg0.N = 64 from N_0]; omega
  unfold G7
  rw [dif_pos hN, accAt_outs m c _ hN, hl]
  simp only [hp]

end Cert.KernelIdeal.Gen

end
-- ==== Proof.KHost.lean ====
/- The two arrays the kernel's host program reshapes before its body. -/
module

public import proofs.«01_k».proof.Proof.Carry
public import Idealize.ShloMosaic.Lib.Pointwise
public import Idealize.ShloMosaic.Lib.StableHlo.ReadAt

@[expose] public section

set_option maxRecDepth 16384

noncomputable section

namespace Cert.KernelIdeal.Gen

open Idealize.ShloMosaic Idealize.ShloMosaic.TcCoe Idealize.SL Idealize.SL.Sem

variable {F : FTy → Type} [FloatOps F]
variable (m : (ℓ : Loc nD τ sig) → Buf (Elt F) ℓ)

/-- The column of outlier channels holds the channels in order. -/
theorem inI_at (c : Dev nD) (k : Fin 128) : inI m c (ix2 k 0) = m ((c : Thread nD τ).loc main_arg1) (ix1 k) := by
  show (V m c main_v0 : Vec F S128x1 .i32) (ix2 k 0) = _
  unfold V
  after_reads_simp
  show (shapeCast S128x1 (m ((c : Thread nD τ).loc main_arg1) : Vec F S128 .i32) _) (ix2 k 0) = _
  pointwise []

/-- The tokens of all sequences, one to a row. -/
theorem rows_cast (v : Vec F S4x4096x3584 .bf16) (h : S4x4096x3584.ShapeCasts S16384x3584) (r : Fin 16384) (d : Fin 3584) :
    shapeCast S16384x3584 v h (ix2 r d) = v (ix3 ⟨(r : ℕ) / 4096, by omega⟩ ⟨(r : ℕ) % 4096, by omega⟩ d) := by
  pointwise []

/-- Row `r` of the tokens is token `r % 4096` of sequence `r / 4096`. -/
theorem inX_at (c : Dev nD) (r : Fin 16384) (d : Fin 3584) :
    inX m c (ix2 r d) = m ((c : Thread nD τ).loc main_arg0) (ix3 ⟨(r : ℕ) / 4096, by omega⟩ ⟨(r : ℕ) % 4096, by omega⟩ d) := by
  show (V m c main_v1 : Vec F S16384x3584 .bf16) (ix2 r d) = _
  unfold V
  after_reads_simp
  exact rows_cast _ _ r d

end Cert.KernelIdeal.Gen

end
-- ==== Proof.KTie.lean ====
/- The kernel's three results are each token's common values: its codes, its scales and its products. -/
module

public import proofs.«01_k».proof.Proof.ArrAt
public import proofs.«01_k».proof.Proof.KHost

@[expose] public section

set_option maxRecDepth 16384

noncomputable section

namespace Cert.KernelIdeal.Gen

open Idealize.ShloMosaic Idealize.ShloMosaic.TcCoe Idealize.SL Idealize.SL.Sem
open Cert.KernelIdeal.Value

variable (m : (ℓ : Loc nD τ sig) → Buf (Elt Ideal) ℓ) (c : Dev nD)

/-- The outlier channels, by number. -/
def kChans : Fin 128 → BitVec 32 := fun k => (m ((c : Thread nD τ).loc main_arg1) : Vec Ideal S128 .i32) (ix1 k)

/-- The token of row `r`. -/
def kTok (r : Fin 16384) : Fin 3584 → EReal := fun d =>
  (m ((c : Thread nD τ).loc main_arg0) : Vec Ideal S4x4096x3584 .bf16) (ix3 ⟨(r : ℕ) / 4096, by omega⟩ ⟨(r : ℕ) % 4096, by omega⟩ d)

theorem chans_inI : chans (inI m c) = kChans m c := funext fun k => inI_at m c k

/-- Row `r % 256` of tile `r / 256` is the token of row `r`. -/
theorem tileX_tok (r : Fin 16384) :
    (fun d : Fin 3584 => tileX m c (⟨(r : ℕ) / 256, by omega⟩ : Fin 64) (ix2 (⟨(r : ℕ) % 256, by omega⟩ : Fin 256) d)) = kTok m c r := by
  funext d
  have e : (⟨256 * ((r : ℕ) / 256) + (r : ℕ) % 256, by omega⟩ : Fin 16384) = r := Fin.ext (Nat.div_add_mod _ _)
  exact (congrArg (fun q => inX m c (ix2 q d)) e).trans (inX_at m c r d)

/-- The kernel's first result: the products. -/
theorem ker5 (r : Fin 16384) (n : Fin 896) :
    G5 m c (ix2 r n) = Words.prod (kChans m c) (kTok m c r) (fun k => inO m c (ix2 k n)) (fun d => inC m c (ix2 d n))
      (fun b => inS m c (ix2 b ⟨(n : ℕ) / 128, by omega⟩)) := by
  refine (G5_at m c r n).trans ((prod_at _ _ _ _).trans (Finset.sum_congr rfl fun d _ => ?_))
  refine congrArg₂ (· * ·) ((weightArr_at _ _ _ _ n d).trans ?_) ((combArr_at _ _ _ d).trans ?_)
  · rw [chans_inI]
  · rw [chans_inI, tileX_tok]

/-- The kernel's second result: the codes. -/
theorem ker6 (r : Fin 16384) (d : Fin 3584) : G6 m c (ix2 r d) = Words.code (kChans m c) (kTok m c r) d := by
  refine (G6_at m c r d).trans ((codesArr_at _ _ _ d).trans ?_)
  rw [chans_inI, tileX_tok]

/-- The kernel's third result: the scales. -/
theorem ker7 (r : Fin 16384) (b : Fin 28) : G7 m c (ix2 r b) = Words.scale (kChans m c) (kTok m c r) b := by
  refine (G7_at m c r b).trans ((scaleArr_at _ _ _ b).trans ?_)
  rw [chans_inI, tileX_tok]

end Cert.KernelIdeal.Gen

end
-- ==== Proof.RefAt.lean ====
/- The reference's values at an index, over the reals extended: what each of its arrays holds for a token and a channel. -/
module

public import proofs.«01_k».proof.Proof.Words
public import proofs.«01_k».proof.Proof.Gen.ReferenceIdeal.Value
public import Idealize.ShloMosaic.Lib.Pointwise

@[expose] public section

set_option maxRecDepth 16384

noncomputable section

namespace Cert.ReferenceIdeal.Gen

open Idealize.ShloMosaic Idealize.ShloMosaic.TcCoe

/-- The mask of kept channels: a positive word. -/
theorem mask_at (k : Vec Ideal S1x1x3584 .i32) (d : Fin 3584) : k0_pay3 (F := Ideal) k (ix3 0 0 d) = Scalar.cmpi .sgt (k (ix3 0 0 d)) 0#32 := by
  unfold k0_pay3
  pointwise []
  rfl

/-- The masked input, its channels cut into blocks of 128. -/
theorem rxin_at (x : Vec Ideal S4x4096x3584 .bf16) (k : Vec Ideal S1x1x3584 .i32) (s : Fin 4) (t : Fin 4096) (b : Fin 28) (l : Fin 128) :
    k0_pay4 (F := Ideal) x k (ix4 s t b l)
    = if k0_pay3 (F := Ideal) k (ix3 0 0 ⟨(b : ℕ) * 128 + (l : ℕ), by omega⟩) = 1 then x (ix3 s t ⟨(b : ℕ) * 128 + (l : ℕ), by omega⟩)
      else (0 : EReal) := by
  unfold k0_pay4
  pointwise []
  rfl

/-- The greatest magnitude of each block. -/
def ramax {F : FTy → Type} [FloatOps F] (v : FVec F S4x4096x28x128 .f32) : FVec F S4x4096x28 .f32 :=
  multiReduction .maximumf [3] S4x4096x28 (absf v) 0xFF800000#32 reduces_S4x4096x28x128_S4x4096x28 (.inl rfl) rfl

theorem ramax_at (v : FVec Ideal S4x4096x28x128 .f32) (s : Fin 4) (t : Fin 4096) (b : Fin 28) :
    ramax v (ix3 s t b) = Finset.univ.fold max (Ideal.ofBits .f32 0xFF800000#32) fun l : Fin 128 => FloatOps.absf (v (ix4 s t b l)) := by
  show _ = Finset.univ.fold max (Ideal.ofBits .f32 0xFF800000#32) fun l : Fin 128 => absf v (ix4 s t b l)
  unfold ramax
  generalize absf v = w
  pointwise []

theorem rexp_gen {F : FTy → Type} [FloatOps F] [Named F] (x : Vec F S4x4096x3584 .bf16) (k : Vec F S1x1x3584 .i32) (s : Fin 4) (t : Fin 4096)
    (b : Fin 28) : k0_pay5 x k (ix3 s t b)
    = Scalar.select (FloatOps.cmpf .olt (FloatOps.mulf (ramax (k0_pay4 x k) (ix3 s t b)) (Named.named κ "inv_fp8_max" 0x3B124925#32))
        (FloatOps.ofBits .f32 0x00800000#32)) (FloatOps.ofBits .f32 0#32)
      (FloatOps.addf (FloatOps.floor (FloatOps.divf
          (FloatOps.log (FloatOps.mulf (ramax (k0_pay4 x k) (ix3 s t b)) (Named.named κ "inv_fp8_max" 0x3B124925#32)))
          (Scalar.log (FloatOps.ofBits .f32 0x40000000#32)))) (FloatOps.ofBits .f32 0x3F800000#32)) := by
  unfold k0_pay5 ramax
  pointwise []

/-- The exponent of a block's scale, of the block's greatest magnitude. -/
theorem rexp_at (x : Vec Ideal S4x4096x3584 .bf16) (k : Vec Ideal S1x1x3584 .i32) (s : Fin 4) (t : Fin 4096) (b : Fin 28) :
    k0_pay5 (F := Ideal) x k (ix3 s t b) = Words.rExp (ramax (k0_pay4 (F := Ideal) x k) (ix3 s t b)) := by
  have h (w : BitVec 32) : FloatOps.ofBits (F := Ideal) .f32 w = Ideal.ofBits .f32 w := rfl
  have hn : Named.named (F := Ideal) κ "inv_fp8_max" (φ := .f32) 0x3B124925#32 = ((1 / 448 : ℝ) : EReal) := rfl
  have hf (a : EReal) : FloatOps.floor (F := Ideal) (φ := .f32) a = Ideal.liftRound Int.floor a := rfl
  have hl (a : EReal) : FloatOps.log (F := Ideal) (φ := .f32) a = Ideal.log a := rfl
  have hl' (a : EReal) : Scalar.log (F := Ideal) (φ := .f32) a = Ideal.log a := rfl
  have hc (a b : EReal) : FloatOps.cmpf (F := Ideal) (φ := .f32) .olt a b = Ideal.cmp .olt a b := rfl
  rw [rexp_gen, Ideal.mulf_def, Ideal.addf_def, Ideal.divf_def, h, h, h, h, hn, hf, hl, hl', hc]
  rfl

theorem rcodes_gen {F : FTy → Type} [FloatOps F] [Named F] (x : Vec F S4x4096x3584 .bf16) (k : Vec F S1x1x3584 .i32) (s : Fin 4) (t : Fin 4096)
    (b : Fin 28) (l : Fin 128) : k0_pay7 x k (ix4 s t b l)
    = FloatOps.truncf .fp8e4m3 bitsLt_fp8e4m3_f32 (FloatOps.minimumf (FloatOps.ofBits .f32 0x43E00000#32)
        (FloatOps.maximumf (FloatOps.ofBits .f32 0xC3E00000#32) (FloatOps.mulf (k0_pay4 x k (ix4 s t b l))
          (FloatOps.exp2 (FloatOps.subf (FloatOps.ofBits .f32 0#32) (k0_pay5 x k (ix3 s t b))))))) := by
  unfold k0_pay7
  pointwise []

/-- A code: the masked input times the inverse scale, clamped to the format's range. -/
theorem rcodes_at (x : Vec Ideal S4x4096x3584 .bf16) (k : Vec Ideal S1x1x3584 .i32) (s : Fin 4) (t : Fin 4096) (b : Fin 28) (l : Fin 128) :
    k0_pay7 (F := Ideal) x k (ix4 s t b l)
    = min (Ideal.ofBits .f32 0x43E00000#32) (max (Ideal.ofBits .f32 0xC3E00000#32)
        (k0_pay4 (F := Ideal) x k (ix4 s t b l) * Ideal.exp2 (Ideal.ofBits .f32 0#32 - k0_pay5 (F := Ideal) x k (ix3 s t b)))) := by
  have h (w : BitVec 32) : FloatOps.ofBits (F := Ideal) .f32 w = Ideal.ofBits .f32 w := rfl
  have he (a : EReal) : FloatOps.exp2 (F := Ideal) (φ := .f32) a = Ideal.exp2 a := rfl
  rw [rcodes_gen, Ideal.truncf_def, Ideal.minimumf_def, Ideal.maximumf_def, Ideal.mulf_def, Ideal.subf_def, h, h, h, he]

/-- The codes as rows. -/
theorem rcodes_row (v : FVec Ideal S4x4096x28x128 .fp8e4m3) (r : Fin 16384) (d : Fin 3584) :
    k0_pay1 v (ix2 r d) = v (ix4 ⟨(r : ℕ) / 4096, by omega⟩ ⟨(r : ℕ) % 4096, by omega⟩ ⟨(d : ℕ) / 128, by omega⟩ ⟨(d : ℕ) % 128, by omega⟩) := by
  unfold k0_pay1
  pointwise []

/-- The product: for a token and an output, the sum over the channels. -/
theorem rprod_at (x : Vec Ideal S4x4096x3584 .bf16) (k : IVec S1x1x3584 1) (sc : FVec Ideal S4x4096x28 .f32) (q : FVec Ideal S4x4096x28x128 .fp8e4m3)
    (wc : Vec Ideal S3584x896 .fp8e4m3) (ws : Vec Ideal S28x7 .f32) (wr : Vec Ideal S3584x896 .bf16) (r : Fin 16384) (n : Fin 896) :
    k0_pay2 x k sc q wc ws wr (ix2 r n) = ∑ d : Fin 3584,
      (if k (ix3 0 0 d) = 1 then
          (q (ix4 ⟨(r : ℕ) / 4096, by omega⟩ ⟨(r : ℕ) % 4096, by omega⟩ ⟨(d : ℕ) / 128, by omega⟩ ⟨(d : ℕ) % 128, by omega⟩)
            * sc (ix3 ⟨(r : ℕ) / 4096, by omega⟩ ⟨(r : ℕ) % 4096, by omega⟩ ⟨(d : ℕ) / 128, by omega⟩) : EReal)
        else x (ix3 ⟨(r : ℕ) / 4096, by omega⟩ ⟨(r : ℕ) % 4096, by omega⟩ d))
      * (if k (ix3 0 0 d) = 1 then (wc (ix2 d n) * ws (ix2 ⟨(d : ℕ) / 128, by omega⟩ ⟨(n : ℕ) / 128, by omega⟩) : EReal) else wr (ix2 d n)) := by
  unfold k0_pay2
  pointwise []
  rfl

end Cert.ReferenceIdeal.Gen

end
-- ==== Proof.RefHost.lean ====
/- The two arrays the reference scatters before its body: the word of each channel, 0 at an outlier and 1 elsewhere, and
   the outlier weight rows laid out by channel. -/
module

public import proofs.«01_k».proof.Proof.Gen.ReferenceIdeal.Value
public import Idealize.ShloMosaic.Lib.Pointwise
public import Idealize.ShloMosaic.Lib.Routing.OpsSet
public import Idealize.ShloMosaic.Lib.StableHlo.ReadAt

@[expose] public section

set_option maxRecDepth 16384

noncomputable section

namespace Cert.ReferenceIdeal.Gen

open Idealize.ShloMosaic Idealize.ShloMosaic.TcCoe Idealize.SL.Sem Idealize.ShloMosaic.Routing

variable {F : FTy → Type} [FloatOps F] [Named F]

/-- Where update `j` of the channel words lands. -/
theorem lands_word (w : IVec S128x3 32) (j : S128.Idx) (d : Fin 3584) :
    scatter_S1x1x3584_S128x3_S128_n_012_012_1.resultIdx? j w = some (ix3 0 0 d)
    ↔ (w (ix2 (j 0) 0)).toInt = 0 ∧ (w (ix2 (j 0) 1)).toInt = 0 ∧ (w (ix2 (j 0) 2)).toInt = ((d : ℕ) : ℤ) := by
  have hs (q : Fin 3) : scatter_S1x1x3584_S128x3_S128_n_012_012_1.start j w q = (w (ix2 (j 0) q)).toInt := by
    fin_cases q <;> exact congrArg (fun y => (w y).toInt) (funext fun b => Fin.ext (match b with | ⟨0, _⟩ => rfl | ⟨1, _⟩ => rfl))
  have hw (q : Fin 3) : scatter_S1x1x3584_S128x3_S128_n_012_012_1.window j q = 0 := by fin_cases q <;> rfl
  rw [resultIdx?_eq_some]
  refine ⟨fun h => ?_, fun h a => ?_⟩
  · have h0 := h 0
    have h1 := h 1
    have h2 := h 2
    rw [hs, hw] at h0 h1 h2
    exact ⟨(add_zero _).symm.trans h0, (add_zero _).symm.trans h1, (add_zero _).symm.trans h2⟩
  · rw [hs, hw]
    match a with
    | ⟨0, _⟩ => exact (add_zero _).trans h.1
    | ⟨1, _⟩ => exact (add_zero _).trans h.2.1
    | ⟨2, _⟩ => exact (add_zero _).trans h.2.2

/-- Where entry `(j, n)` of the outlier rows lands. -/
theorem lands_row (w : IVec S128x1 32) (j : S128x896.Idx) (d : Fin 3584) (n : Fin 896) :
    scatter_S3584x896_S128x1_S128x896_1_0_0_1.resultIdx? j w = some (ix2 d n)
    ↔ (w (ix2 (j 0) 0)).toInt = ((d : ℕ) : ℤ) ∧ (j 1 : ℕ) = n := by
  have s0 : scatter_S3584x896_S128x1_S128x896_1_0_0_1.start j w 0 = (w (ix2 (j 0) 0)).toInt :=
    congrArg (fun y => (w y).toInt) (funext fun b => Fin.ext (match b with | ⟨0, _⟩ => rfl | ⟨1, _⟩ => rfl))
  have s1 : scatter_S3584x896_S128x1_S128x896_1_0_0_1.start j w 1 = 0 := rfl
  have w0 : scatter_S3584x896_S128x1_S128x896_1_0_0_1.window j 0 = 0 := rfl
  have w1 : scatter_S3584x896_S128x1_S128x896_1_0_0_1.window j 1 = (j 1).val := rfl
  rw [resultIdx?_eq_some]
  refine ⟨fun h => ?_, fun h a => ?_⟩
  · have h0 := h 0
    have h1 := h 1
    rw [s0, w0] at h0
    rw [s1, w1] at h1
    exact ⟨(add_zero _).symm.trans h0, Int.ofNat.inj ((zero_add _).symm.trans h1)⟩
  · match a with
    | ⟨0, _⟩ => exact (congrArg₂ (fun (a : ℤ) (b : ℕ) => a + (b : ℤ)) s0 w0).trans ((add_zero _).trans h.1)
    | ⟨1, _⟩ => exact (congrArg₂ (fun (a : ℤ) (b : ℕ) => a + (b : ℤ)) s1 w1).trans ((zero_add _).trans (congrArg Int.ofNat h.2))

variable (m : (ℓ : Loc nD τ sig) → Buf (Elt F) ℓ)

/-- The outlier channels. -/
abbrev rI (c : Dev nD) : Vec F S128 .i32 := m ((c : Thread nD τ).loc main_arg1)
/-- The outlier weight rows. -/
abbrev rO (c : Dev nD) : Vec F S128x896 .bf16 := m ((c : Thread nD τ).loc main_arg2)

theorem V15 (c : Dev nD) : ∃ w : IVec S128x3 32, (∀ j : Fin 128, w (ix2 j 0) = 0#32 ∧ w (ix2 j 1) = 0#32 ∧
     w (ix2 j 2) = Scalar.select (Scalar.cmpi .slt (rI m c (ix1 j)) 0#32) (rI m c (ix1 j) + 3584#32) (rI m c (ix1 j))) ∧
    (V m c main_v15 : Vec F S1x1x3584 .i32) = Host.scatter scatter_S1x1x3584_S128x3_S128_n_012_012_1 (fun _ b => b)
      (fun _ => 1#32) w (fun _ => 0#32) := by
  have e0 : StableHlo.upto hostOps0 (fun b => m (c, b)) 18 (Proc.tc.devRef (![main_v10, main_v11, main_v12] 0))
      = (broadcastInDim S128x1 ![0] bcast_S128_S128x1_0 (broadcastInDim S128 ![] bcast_S_S128 (constantI S_ 32 0#32)) : IVec S128x1 32) := by
    show StableHlo.upto hostOps0 (fun b => m (c, b)) 18 (Proc.tc.devRef main_v10) = _
    after_reads_simp
    rfl
  have e1 : StableHlo.upto hostOps0 (fun b => m (c, b)) 18 (Proc.tc.devRef (![main_v10, main_v11, main_v12] 1))
      = (broadcastInDim S128x1 ![0] bcast_S128_S128x1_0 (broadcastInDim S128 ![] bcast_S_S128 (constantI S_ 32 0#32)) : IVec S128x1 32) := by
    show StableHlo.upto hostOps0 (fun b => m (c, b)) 18 (Proc.tc.devRef main_v11) = _
    after_reads_simp
    rfl
  have e2 : StableHlo.upto hostOps0 (fun b => m (c, b)) 18 (Proc.tc.devRef (![main_v10, main_v11, main_v12] 2))
      = (broadcastInDim S128x1 ![0] bcast_S128_S128x1_0 (select (cmpi .slt (rI m c) (broadcastInDim S128 ![] bcast_S_S128 (constantI S_ 32 0#32)))
          (addi (rI m c) (broadcastInDim S128 ![] bcast_S_S128 (constantI S_ 32 3584#32))) (rI m c)) : IVec S128x1 32) := by
    show StableHlo.upto hostOps0 (fun b => m (c, b)) 18 (Proc.tc.devRef main_v12) = _
    after_reads_simp
  unfold V
  after_reads_simp
  rw [e0, e1, e2]
  refine ⟨_, fun j => ?_, rfl⟩
  pointwise []
  rfl

theorem V23 (c : Dev nD) : ∃ w : IVec S128x1 32, (∀ j : Fin 128,
     w (ix2 j 0) = Scalar.select (Scalar.cmpi .slt (rI m c (ix1 j)) 0#32) (rI m c (ix1 j) + 3584#32) (rI m c (ix1 j))) ∧
    (V m c main_v23 : Vec F S3584x896 .bf16) = Host.scatter scatter_S3584x896_S128x1_S128x896_1_0_0_1 (fun _ b => b)
      (fun _ => Scalar.ofBits .bf16 0x0000#16) w (rO m c) := by
  unfold V
  after_reads_simp
  refine ⟨_, fun j => ?_, rfl⟩
  show broadcastInDim S128x1 ![0] bcast_S128_S128x1_0 (select (cmpi .slt (rI m c) (broadcastInDim S128 ![] bcast_S_S128 (constantI S_ 32 0#32)))
    (addi (rI m c) (broadcastInDim S128 ![] bcast_S_S128 (constantI S_ 32 3584#32))) (rI m c)) (ix2 j 0) = _
  pointwise []
  rfl

/-- A word that is not negative stays as it is. -/
theorem wrapped (x : BitVec 32) (h : 0 ≤ x.toInt) : Scalar.select (Scalar.cmpi .slt x 0#32) (x + 3584#32) x = x := by
  refine wrap_of_lt x _ ?_
  rw [BitVec.toInt_eq_toNat_cond] at h
  have := x.isLt
  split at h <;> omega

/-- A word, read signed, is a channel exactly when it is that channel's word. -/
theorem toInt_chan (x : BitVec 32) (d : Fin 3584) : x.toInt = ((d : ℕ) : ℤ) ↔ x = BitVec.ofNat 32 (d : ℕ) := by
  have hd := d.isLt
  refine ⟨fun h => BitVec.eq_of_toNat_eq ?_, fun h => ?_⟩
  · rw [BitVec.toInt_eq_toNat_cond] at h
    have := x.isLt
    rw [BitVec.toNat_ofNat]
    split at h <;> omega
  · rw [h, BitVec.toInt_eq_toNat_cond, BitVec.toNat_ofNat]
    split <;> omega

/-- The word of a channel: 0 at an outlier, 1 elsewhere. -/
theorem word_at (c : Dev nD) (hp : ∀ i : Fin 128, 0 ≤ (rI m c (ix1 i)).toInt) (d : Fin 3584) :
    (V m c main_v15 : Vec F S1x1x3584 .i32) (ix3 0 0 d) = if ∃ i : Fin 128, rI m c (ix1 i) = BitVec.ofNat 32 (d : ℕ) then 0#32 else 1#32 := by
  obtain ⟨w, hw, e⟩ := V15 m c
  have hw2 (j : Fin 128) : w (ix2 j 2) = rI m c (ix1 j) := (hw j).2.2.trans (wrapped _ (hp j))
  rw [e]
  split
  · next h =>
    obtain ⟨i, hi⟩ := h
    refine scatter_set_hit _ _ _ _ _ _ (fun _ _ => rfl) (ix1 i : S128.Idx) ((lands_word w _ d).2 ?_)
    exact ⟨(congrArg BitVec.toInt (hw i).1).trans rfl, (congrArg BitVec.toInt (hw i).2.1).trans rfl,
      (congrArg BitVec.toInt (hw2 i)).trans ((toInt_chan _ d).2 hi)⟩
  · next h =>
    refine scatter_set_miss _ _ _ _ _ fun j hj => h ⟨j 0, ?_⟩
    exact (toInt_chan _ d).1 ((congrArg BitVec.toInt (hw2 (j 0))).symm.trans ((lands_word w j d).1 hj).2.2)

/-- The laid-out row of an outlier channel is its row of outlier weights. -/
theorem row_at (c : Dev nD) (hp : ∀ i : Fin 128, 0 ≤ (rI m c (ix1 i)).toInt) (hd : ∀ i j : Fin 128, rI m c (ix1 i) = rI m c (ix1 j) → i = j)
    (i : Fin 128) (d : Fin 3584) (hi : rI m c (ix1 i) = BitVec.ofNat 32 (d : ℕ)) (n : Fin 896) :
    (V m c main_v23 : Vec F S3584x896 .bf16) (ix2 d n) = rO m c (ix2 i n) := by
  obtain ⟨w, hw, e⟩ := V23 m c
  have hw' (j : Fin 128) : w (ix2 j 0) = rI m c (ix1 j) := (hw j).trans (wrapped _ (hp j))
  rw [e]
  refine scatter_set_hit _ _ _ _ _ _ (fun k hk => ?_) (ix2 i n : S128x896.Idx) ((lands_row w _ d n).2 ⟨?_, rfl⟩)
  · obtain ⟨h0, h1⟩ := (lands_row w k d n).1 hk
    have hk0 : k 0 = i := hd _ _ (((hw' _).symm.trans ((toInt_chan _ d).1 h0)).trans hi.symm)
    refine congrArg (rO m c) (funext fun a => Fin.ext ?_)
    match a with
    | ⟨0, _⟩ => exact congrArg Fin.val hk0
    | ⟨1, _⟩ => exact h1
  · exact (congrArg BitVec.toInt (hw' i)).trans ((toInt_chan _ d).2 hi)

end Cert.ReferenceIdeal.Gen

end
-- ==== Proof.RefOut.lean ====
/- The reference's three results after its run: its body has one point, each window is its whole array. -/
module

public import proofs.«01_k».proof.Proof.Gen.ReferenceIdeal.Value

@[expose] public section

set_option maxRecDepth 16384

noncomputable section

namespace Cert.ReferenceIdeal.Gen

open Idealize.ShloMosaic Idealize.ShloMosaic.TcCoe Idealize.SL.Sem

variable {F : FTy → Type} [FloatOps F] [Named F]
variable (m : (ℓ : Loc nD τ sig) → Buf (Elt F) ℓ)

theorem rblk_0 (c : Dev nD) : iblk m c 0 t0_0 = m ((c : Thread nD τ).loc main_arg0) := by
  funext y
  rw [← V_main_arg0 m c]
  show V m c main_arg0 (((cfg0.win 0).blk t0_0).view.emb y) = V m c main_arg0 y
  refine congrArg (V m c main_arg0) (funext fun a => Fin.ext ?_)
  match a with
  | ⟨0, _⟩ => show 0 * 4 + 1 * (y 0).val = (y 0).val; omega
  | ⟨1, _⟩ => show 0 * 4096 + 1 * (y 1).val = (y 1).val; omega
  | ⟨2, _⟩ => show 0 * 3584 + 1 * (y 2).val = (y 2).val; omega
theorem rblk_1 (c : Dev nD) : iblk m c 1 t0_0 = V m c main_v15 := by
  funext y
  show V m c main_v15 (((cfg0.win 1).blk t0_0).view.emb y) = V m c main_v15 y
  refine congrArg (V m c main_v15) (funext fun a => Fin.ext ?_)
  match a with
  | ⟨0, _⟩ => show 0 * 1 + 1 * (y 0).val = (y 0).val; omega
  | ⟨1, _⟩ => show 0 * 1 + 1 * (y 1).val = (y 1).val; omega
  | ⟨2, _⟩ => show 0 * 3584 + 1 * (y 2).val = (y 2).val; omega
theorem rwin_2 (X : Vec F S3584x896 .bf16) : ((cfg0.win 2).blk t0_0).view.read (Elt F) X = X := by
  funext y
  show X (((cfg0.win 2).blk t0_0).view.emb y) = X y
  refine congrArg X (funext fun a => Fin.ext ?_)
  match a with
  | ⟨0, _⟩ => show 0 * 3584 + 1 * (y 0).val = (y 0).val; omega
  | ⟨1, _⟩ => show 0 * 896 + 1 * (y 1).val = (y 1).val; omega
theorem rblk_2 (c : Dev nD) : iblk m c 2 t0_0 = V m c main_v23 := rwin_2 (V m c main_v23)
theorem rblk_3 (c : Dev nD) : iblk m c 3 t0_0 = m ((c : Thread nD τ).loc main_arg3) := by
  funext y
  rw [← V_main_arg3 m c]
  show V m c main_arg3 (((cfg0.win 3).blk t0_0).view.emb y) = V m c main_arg3 y
  refine congrArg (V m c main_arg3) (funext fun a => Fin.ext ?_)
  match a with
  | ⟨0, _⟩ => show 0 * 3584 + 1 * (y 0).val = (y 0).val; omega
  | ⟨1, _⟩ => show 0 * 896 + 1 * (y 1).val = (y 1).val; omega
theorem rblk_4 (c : Dev nD) : iblk m c 4 t0_0 = m ((c : Thread nD τ).loc main_arg4) := by
  funext y
  rw [← V_main_arg4 m c]
  show V m c main_arg4 (((cfg0.win 4).blk t0_0).view.emb y) = V m c main_arg4 y
  refine congrArg (V m c main_arg4) (funext fun a => Fin.ext ?_)
  match a with
  | ⟨0, _⟩ => show 0 * 28 + 1 * (y 0).val = (y 0).val; omega
  | ⟨1, _⟩ => show 0 * 7 + 1 * (y 1).val = (y 1).val; omega

theorem rld_0 (x : Vec F S4x4096x3584 .bf16) : View.ld x r0_0 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem rld_1 (x : Vec F S1x1x3584 .i32) : View.ld x r0_1 = x := by
  funext y
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega
theorem rld_4 {e : EltTy} (x : Vec F S3584x896 e) : View.ld x r0_4 = x := by
  funext y
  refine congrArg x (funext fun a => Fin.ext ?_)
  match a with
  | ⟨0, _⟩ => show 0 + 1 * (y 0).val = (y 0).val; omega
  | ⟨1, _⟩ => show 0 + 1 * (y 1).val = (y 1).val; omega
theorem rld_5 (x : Vec F S28x7 .f32) : View.ld x r0_5 = x := by
  funext y
  refine congrArg x (funext fun a => Fin.ext ?_)
  match a with
  | ⟨0, _⟩ => show 0 + 1 * (y 0).val = (y 0).val; omega
  | ⟨1, _⟩ => show 0 + 1 * (y 1).val = (y 1).val; omega

theorem out5 (x0 : Vec F S4x4096x3584 .bf16) (x1 : Vec F S1x1x3584 .i32) (x2 : Vec F S3584x896 .bf16) (x3 : Vec F S3584x896 .fp8e4m3)
    (x4 : Vec F S28x7 .f32) (y : S16384x896.Idx) :
    out0_5 x0 x1 x2 x3 x4 y = k0_pay2 x0 (k0_pay3 x1) (k0_pay6 x0 x1) (k0_pay7 x0 x1) x3 x4 x2 y := by
  unfold out0_5 k0_pay9
  rw [rld_0, rld_1, rld_4, rld_4, rld_5]
  refine View.canon_apply_of_pieces (fun y => k0_pay2 x0 (k0_pay3 x1) (k0_pay6 x0 x1) (k0_pay7 x0 x1) x3 x4 x2 y) _ ?_ y (cover0_5 _ y)
  intro pc hpc x
  obtain rfl := List.mem_singleton.1 hpc
  refine congrArg (k0_pay2 x0 (k0_pay3 x1) (k0_pay6 x0 x1) (k0_pay7 x0 x1) x3 x4 x2) (funext fun a => Fin.ext ?_)
  match a with
  | ⟨0, _⟩ => show (x 0).val = 0 + 1 * (x 0).val; omega
  | ⟨1, _⟩ => show (x 1).val = 0 + 1 * (x 1).val; omega
theorem out6 (x0 : Vec F S4x4096x3584 .bf16) (x1 : Vec F S1x1x3584 .i32) (x2 : Vec F S3584x896 .bf16) (x3 : Vec F S3584x896 .fp8e4m3)
    (x4 : Vec F S28x7 .f32) (y : S16384x3584.Idx) : out0_6 x0 x1 x2 x3 x4 y = k0_pay1 (k0_pay7 x0 x1) y := by
  unfold out0_6 k0_pay9
  rw [rld_0, rld_1]
  refine View.canon_apply_of_pieces (fun y => k0_pay1 (k0_pay7 x0 x1) y) _ ?_ y (cover0_6 _ y)
  intro pc hpc x
  obtain rfl := List.mem_singleton.1 hpc
  refine congrArg (k0_pay1 (k0_pay7 x0 x1)) (funext fun a => Fin.ext ?_)
  match a with
  | ⟨0, _⟩ => show (x 0).val = 0 + 1 * (x 0).val; omega
  | ⟨1, _⟩ => show (x 1).val = 0 + 1 * (x 1).val; omega
theorem out7 (x0 : Vec F S4x4096x3584 .bf16) (x1 : Vec F S1x1x3584 .i32) (x2 : Vec F S3584x896 .bf16) (x3 : Vec F S3584x896 .fp8e4m3)
    (x4 : Vec F S28x7 .f32) (y : S16384x28.Idx) : out0_7 x0 x1 x2 x3 x4 y = Value.E7 x0 x1 y := by
  unfold out0_7
  rw [rld_0, rld_1]
  exact Value.canon7_eq x0 x1 y

theorem rread_5 (A : Vec F S16384x896 .bf16) (y : S16384x896.Idx) : ((cfg0.win 5).blk t0_0).view.read (Elt F) A y = A y := by
  show A (((cfg0.win 5).blk t0_0).view.emb y) = A y
  refine congrArg A (funext fun a => Fin.ext ?_)
  match a with
  | ⟨0, _⟩ => show 0 * 16384 + 1 * (y 0).val = (y 0).val; omega
  | ⟨1, _⟩ => show 0 * 896 + 1 * (y 1).val = (y 1).val; omega
theorem rcut_5 (A : Vec F S16384x896 .bf16) (y : S16384x896.Idx) : (cfg0.win 5).cut (grid0.coords t0_0) A y = A y := rfl
theorem rread_6 (A : Vec F S16384x3584 .fp8e4m3) (y : S16384x3584.Idx) : ((cfg0.win 6).blk t0_0).view.read (Elt F) A y = A y := by
  show A (((cfg0.win 6).blk t0_0).view.emb y) = A y
  refine congrArg A (funext fun a => Fin.ext ?_)
  match a with
  | ⟨0, _⟩ => show 0 * 16384 + 1 * (y 0).val = (y 0).val; omega
  | ⟨1, _⟩ => show 0 * 3584 + 1 * (y 1).val = (y 1).val; omega
theorem rcut_6 (A : Vec F S16384x3584 .fp8e4m3) (y : S16384x3584.Idx) : (cfg0.win 6).cut (grid0.coords t0_0) A y = A y := rfl
theorem rread_7 (A : Vec F S16384x28 .f32) (y : S16384x28.Idx) : ((cfg0.win 7).blk t0_0).view.read (Elt F) A y = A y := by
  show A (((cfg0.win 7).blk t0_0).view.emb y) = A y
  refine congrArg A (funext fun a => Fin.ext ?_)
  match a with
  | ⟨0, _⟩ => show 0 * 16384 + 1 * (y 0).val = (y 0).val; omega
  | ⟨1, _⟩ => show 0 * 28 + 1 * (y 1).val = (y 1).val; omega
theorem rcut_7 (A : Vec F S16384x28 .f32) (y : S16384x28.Idx) : (cfg0.win 7).cut (grid0.coords t0_0) A y = A y := rfl
/-- The reference's first result. -/
theorem rfinal5 (c : Dev nD) (y : S16384x896.Idx) : (dats m 0 c).arrAt 5 cfg0.N y
    = k0_pay2 (m ((c : Thread nD τ).loc main_arg0)) (k0_pay3 (V m c main_v15)) (k0_pay6 (m ((c : Thread nD τ).loc main_arg0)) (V m c main_v15))
        (k0_pay7 (m ((c : Thread nD τ).loc main_arg0)) (V m c main_v15)) (m ((c : Thread nD τ).loc main_arg3))
        (m ((c : Thread nD τ).loc main_arg4)) (V m c main_v23) y := by
  have b := congrFun (Value.blocks5 m c t0_0 rfl) y
  rw [Value.flushed5, rblk_0, rblk_1, rblk_2, rblk_3, rblk_4] at b
  exact (rread_5 _ y).symm.trans (b.trans ((rcut_5 _ y).trans (out5 _ _ _ _ _ y)))
/-- The reference's second result. -/
theorem rfinal6 (c : Dev nD) (y : S16384x3584.Idx) : (dats m 0 c).arrAt 6 cfg0.N y
    = k0_pay1 (k0_pay7 (m ((c : Thread nD τ).loc main_arg0)) (V m c main_v15)) y := by
  have b := congrFun (Value.blocks6 m c t0_0 rfl) y
  rw [Value.flushed6, rblk_0, rblk_1, rblk_2, rblk_3, rblk_4] at b
  exact (rread_6 _ y).symm.trans (b.trans ((rcut_6 _ y).trans (out6 _ _ _ _ _ y)))
/-- The reference's third result. -/
theorem rfinal7 (c : Dev nD) (y : S16384x28.Idx) : (dats m 0 c).arrAt 7 cfg0.N y
    = Value.E7 (m ((c : Thread nD τ).loc main_arg0)) (V m c main_v15) y := by
  have b := congrFun (Value.blocks7 m c t0_0 rfl) y
  rw [Value.flushed7, rblk_0, rblk_1, rblk_2, rblk_3, rblk_4] at b
  exact (rread_7 _ y).symm.trans (b.trans ((rcut_7 _ y).trans (out7 _ _ _ _ _ y)))

end Cert.ReferenceIdeal.Gen

end
-- ==== Proof.RefTie.lean ====
/- The reference's three results are each token's common values: its codes, its scales and its products. -/
module

public import proofs.«01_k».proof.Proof.Spec
public import proofs.«01_k».proof.Proof.RefAt
public import proofs.«01_k».proof.Proof.RefHost
public import proofs.«01_k».proof.Proof.RefOut

@[expose] public section

set_option maxRecDepth 16384

noncomputable section

namespace Cert.ReferenceIdeal.Gen

open Idealize.ShloMosaic Idealize.ShloMosaic.TcCoe
open Cert.Words (Out)

/-- Token `t` of sequence `s`. -/
def token (x : Vec Ideal S4x4096x3584 .bf16) (s : Fin 4) (t : Fin 4096) : Fin 3584 → EReal := fun d => x (ix3 s t d)

/-- The scale of a block is two to its exponent. -/
theorem rscale_pay {F : FTy → Type} [FloatOps F] [Named F] (x : Vec F S4x4096x3584 .bf16) (k : Vec F S1x1x3584 .i32) (y : S4x4096x28.Idx) :
    k0_pay6 x k y = FloatOps.exp2 (k0_pay5 x k y) := by
  unfold k0_pay6
  generalize k0_pay5 x k = e
  rfl

/-- The same over the extended reals. -/
theorem rscale_at (x : Vec Ideal S4x4096x3584 .bf16) (k : Vec Ideal S1x1x3584 .i32) (y : S4x4096x28.Idx) :
    k0_pay6 (F := Ideal) x k y = Ideal.exp2 (k0_pay5 (F := Ideal) x k y) :=
  (rscale_pay x k y).trans (by
    generalize k0_pay5 (F := Ideal) x k y = e
    rfl)

/-- The scales, one row to a token. -/
theorem rscale_row (x : Vec Ideal S4x4096x3584 .bf16) (k : Vec Ideal S1x1x3584 .i32) (r : Fin 16384) (b : Fin 28) :
    Value.E7 (F := Ideal) x k (ix2 r b)
      = Ideal.exp2 (k0_pay5 (F := Ideal) x k (ix3 ⟨(r : ℕ) / 4096, by omega⟩ ⟨(r : ℕ) % 4096, by omega⟩ b)) := by
  have e : Value.ix7_0 (ix2 r b) = (ix3 ⟨(r : ℕ) / 4096, by omega⟩ ⟨(r : ℕ) % 4096, by omega⟩ b : S4x4096x28.Idx) :=
    funext fun a => Fin.ext (match a with | ⟨0, _⟩ => rfl | ⟨1, _⟩ => rfl | ⟨2, _⟩ => rfl)
  unfold Value.E7
  rw [e]
  generalize k0_pay5 (F := Ideal) x k = e
  rfl

section Values

variable (i : Fin 128 → BitVec 32) (x : Vec Ideal S4x4096x3584 .bf16) (k : Vec Ideal S1x1x3584 .i32)
variable (hk : ∀ d : Fin 3584, k (ix3 0 0 d) = if Out i d then 0#32 else 1#32)
variable (hx : ∀ y, FloatOps.absf (F := Ideal) (φ := .f32) (x y) ≤ (((2 : ℝ) ^ 128 - 2 ^ 120 : ℝ) : EReal))

include hk

/-- The mask keeps exactly the channels that are no outlier. -/
theorem mask_iff (d : Fin 3584) : k0_pay3 (F := Ideal) k (ix3 0 0 d) = 1 ↔ ¬ Out i d := by
  rw [mask_at, hk]
  split
  · exact iff_of_false (by decide) (not_not.2 ‹_›)
  · exact iff_of_true (by decide) ‹_›

/-- The masked input is the token with its outliers set to zero. -/
theorem rxin_eq (s : Fin 4) (t : Fin 4096) (b : Fin 28) (l : Fin 128) :
    k0_pay4 (F := Ideal) x k (ix4 s t b l) = Words.xin i (token x s t) ⟨128 * (b : ℕ) + (l : ℕ), by omega⟩ := by
  have e : (⟨(b : ℕ) * 128 + (l : ℕ), by omega⟩ : Fin 3584) = ⟨128 * (b : ℕ) + (l : ℕ), by omega⟩ := Fin.ext (by simp only []; omega)
  rw [rxin_at, e]
  unfold Words.xin
  by_cases h : Out i ⟨128 * (b : ℕ) + (l : ℕ), by omega⟩
  · rw [if_pos h, if_neg (mt (mask_iff i k hk _).1 (not_not.2 h))]
  · rw [if_neg h, if_pos ((mask_iff i k hk _).2 h)]
    rfl

/-- A block's greatest magnitude. -/
theorem ramax_eq (s : Fin 4) (t : Fin 4096) (b : Fin 28) :
    ramax (k0_pay4 (F := Ideal) x k) (ix3 s t b) = Words.amax i (token x s t) b := by
  rw [ramax_at, show Ideal.ofBits .f32 0xFF800000#32 = (⊥ : EReal) by simp [Ideal.ofBits, Ideal.ieee]]
  simp only [rxin_eq i x k hk]
  rfl

include hx

/-- A block's scale, and its inverse, are the common ones. -/
theorem rscale_eq (s : Fin 4) (t : Fin 4096) (b : Fin 28) :
    Words.scale i (token x s t) b = Ideal.exp2 (k0_pay5 (F := Ideal) x k (ix3 s t b))
      ∧ Words.kInv (Words.amax i (token x s t) b) = Ideal.exp2 (Ideal.ofBits .f32 0#32 - k0_pay5 (F := Ideal) x k (ix3 s t b)) := by
  obtain ⟨r, hr, e⟩ := Words.amax_real i (token x s t) (fun d => hx _) b
  have h5 : k0_pay5 (F := Ideal) x k (ix3 s t b) = Words.rExp (r : EReal) := by rw [rexp_at, ramax_eq i x k hk, e]
  unfold Words.scale
  rw [h5, e]
  exact Words.scale_eq r hr

/-- The codes are the token's codes. -/
theorem rcodes_eq (s : Fin 4) (t : Fin 4096) (d : Fin 3584) :
    k0_pay7 (F := Ideal) x k (ix4 s t ⟨(d : ℕ) / 128, by omega⟩ ⟨(d : ℕ) % 128, by omega⟩) = Words.code i (token x s t) d := by
  have e : (⟨128 * ((d : ℕ) / 128) + (d : ℕ) % 128, by omega⟩ : Fin 3584) = d := Fin.ext (Nat.div_add_mod _ _)
  rw [rcodes_at, rxin_eq i x k hk, ← (rscale_eq i x k hk hx s t _).2]
  simp only [e]
  rfl

/-- The products are the token's products. -/
theorem rprod_eq (hd : ∀ a b : Fin 128, i a = i b → a = b) (wo : Vec Ideal S128x896 .bf16) (wc : Vec Ideal S3584x896 .fp8e4m3) (ws : Vec Ideal S28x7 .f32)
    (wr : Vec Ideal S3584x896 .bf16)
    (hw : ∀ (a : Fin 128) (d : Fin 3584), i a = BitVec.ofNat 32 (d : ℕ) → ∀ n, wr (ix2 d n) = wo (ix2 a n)) (r : Fin 16384) (n : Fin 896) :
    k0_pay2 (F := Ideal) x (k0_pay3 k) (k0_pay6 x k) (k0_pay7 x k) wc ws wr (ix2 r n)
      = Words.prod i (token x ⟨(r : ℕ) / 4096, by omega⟩ ⟨(r : ℕ) % 4096, by omega⟩) (fun a => wo (ix2 a n)) (fun d => wc (ix2 d n))
          (fun b => ws (ix2 b ⟨(n : ℕ) / 128, by omega⟩)) := by
  rw [rprod_at]
  unfold Words.prod
  refine Finset.sum_congr rfl fun d _ => ?_
  rw [mul_comm (Words.weight _ _ _ _ _)]
  by_cases h : Out i d
  · have hm := mt (mask_iff i k hk d).1 (not_not.2 h)
    obtain ⟨a, ha⟩ := h
    rw [if_neg hm, if_neg hm, Words.weight_out i hd ha, Words.comb, if_pos ⟨a, ha⟩, hw a d ha n]
    rfl
  · have hm := (mask_iff i k hk d).2 h
    rw [if_pos hm, if_pos hm, rcodes_eq i x k hk hx, rscale_at, ← (rscale_eq i x k hk hx _ _ _).1, Words.weight, Words.comb, if_neg h, if_neg h]
    rfl

end Values

variable (m : (ℓ : Loc nD τ sig) → Buf (Elt Ideal) ℓ)

/-- The tokens. -/
abbrev rX (c : Dev nD) : Vec Ideal S4x4096x3584 .bf16 := m ((c : Thread nD τ).loc main_arg0)
/-- The weight codes. -/
abbrev rC (c : Dev nD) : Vec Ideal S3584x896 .fp8e4m3 := m ((c : Thread nD τ).loc main_arg3)
/-- The weight scales. -/
abbrev rS (c : Dev nD) : Vec Ideal S28x7 .f32 := m ((c : Thread nD τ).loc main_arg4)
/-- The outlier channels, by number. -/
def rChans (c : Dev nD) : Fin 128 → BitVec 32 := fun a => rI m c (ix1 a)

/-- The token of row `r`. -/
def rTok (c : Dev nD) (r : Fin 16384) : Fin 3584 → EReal := token (rX m c) ⟨(r : ℕ) / 4096, by omega⟩ ⟨(r : ℕ) % 4096, by omega⟩

variable (c : Dev nD)
variable (hx : ∀ y, FloatOps.absf (F := Ideal) (φ := .f32) (rX m c y) ≤ (((2 : ℝ) ^ 128 - 2 ^ 120 : ℝ) : EReal))
variable (hp : ∀ a : Fin 128, 0 ≤ (rI m c (ix1 a)).toInt)

include hp in
/-- The words the reference scatters are those of the outlier channels. -/
theorem words_eq (d : Fin 3584) : (V m c main_v15) (ix3 0 0 d) = if Out (rChans m c) d then 0#32 else 1#32 :=
  (word_at m c hp d).trans (if_congr Iff.rfl rfl rfl)

include hx hp in
/-- The reference's first result: the products. -/
theorem ref5 (hd : ∀ a b : Fin 128, rI m c (ix1 a) = rI m c (ix1 b) → a = b) (r : Fin 16384) (n : Fin 896) :
    (dats m 0 c).arrAt 5 cfg0.N (ix2 r n)
      = Words.prod (rChans m c) (rTok m c r) (fun a => rO m c (ix2 a n)) (fun d => rC m c (ix2 d n)) (fun b => rS m c (ix2 b ⟨(n : ℕ) / 128, by omega⟩)) :=
  (rfinal5 m c (ix2 r n)).trans (rprod_eq (rChans m c) (rX m c) (V m c main_v15) (words_eq m c hp) hx hd (rO m c) (rC m c) (rS m c) (V m c main_v23)
    (fun a d ha n => row_at m c hp hd a d ha n) r n)

include hx hp in
/-- The reference's second result: the codes. -/
theorem ref6 (r : Fin 16384) (d : Fin 3584) : (dats m 0 c).arrAt 6 cfg0.N (ix2 r d) = Words.code (rChans m c) (rTok m c r) d :=
  (rfinal6 m c (ix2 r d)).trans ((rcodes_row _ r d).trans (rcodes_eq (rChans m c) (rX m c) (V m c main_v15) (words_eq m c hp) hx _ _ d))

include hx hp in
/-- The reference's third result: the scales. -/
theorem ref7 (r : Fin 16384) (b : Fin 28) : (dats m 0 c).arrAt 7 cfg0.N (ix2 r b) = Words.scale (rChans m c) (rTok m c r) b :=
  (rfinal7 m c (ix2 r b)).trans ((rscale_row _ _ r b).trans (rscale_eq (rChans m c) (rX m c) (V m c main_v15) (words_eq m c hp) hx _ _ b).1.symm)

end Cert.ReferenceIdeal.Gen

end
-- ==== Proof.Tie.lean ====
/- Started on the same inputs, within the precondition, the kernel and the reference leave the same three results. -/
module

public import proofs.«01_k».proof.Defs
public import proofs.«01_k».proof.Proof.Pre
public import proofs.«01_k».proof.Proof.KTie
public import proofs.«01_k».proof.Proof.RefTie

@[expose] public section

set_option maxRecDepth 16384

noncomputable section

namespace Cert.Tie

open Idealize.ShloMosaic Idealize.ShloMosaic.TcCoe Idealize.SL.Sem

/-- The kernel's memory. -/
abbrev MemK := (ℓ : Loc Cert.KernelIdeal.nD Cert.KernelIdeal.τ Cert.KernelIdeal.sig) → Buf (Elt Ideal) ℓ
/-- The reference's memory. -/
abbrev MemR := (ℓ : Loc Cert.ReferenceIdeal.nD Cert.ReferenceIdeal.τ Cert.ReferenceIdeal.sig) → Buf (Elt Ideal) ℓ

/-- The two memories hold the same inputs. -/
def Same (m : MemK) (m' : MemR) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)

variable (m : MemK) (m' : MemR) (c : Dev Cert.KernelIdeal.nD) (hs : Same m m' c)

include hs

/-- The outlier channels are the same. -/
theorem chans_eq : Cert.ReferenceIdeal.Gen.rChans m' c = Cert.KernelIdeal.Gen.kChans m c :=
  funext fun a => congrFun hs.2.1 (ix1 a)

/-- The tokens are the same. -/
theorem tok_eq (r : Fin 16384) : Cert.ReferenceIdeal.Gen.rTok m' c r = Cert.KernelIdeal.Gen.kTok m c r :=
  funext fun d => congrFun hs.1 (ix3 _ _ d)

variable (h : Pre_KernelIdeal_inputs_ok m)

include h

/-- What the precondition says, of the reference's inputs. -/
theorem inputs : (∀ y, FloatOps.absf (F := Ideal) (φ := .f32) (Cert.ReferenceIdeal.Gen.rX m' c y) ≤ (((2 : ℝ) ^ 128 - 2 ^ 120 : ℝ) : EReal))
    ∧ (∀ a : Fin 128, 0 ≤ (Cert.ReferenceIdeal.Gen.rI m' c (ix1 a)).toInt)
    ∧ ∀ a b : Fin 128, Cert.ReferenceIdeal.Gen.rI m' c (ix1 a) = Cert.ReferenceIdeal.Gen.rI m' c (ix1 b) → a = b := by
  obtain ⟨hx, hp, hd⟩ := Cert.Pre_inputs_ok.spec _ _ _ _ _ (h c)
  have e0 : ∀ y, Cert.ReferenceIdeal.Gen.rX m' c y = _ := congrFun hs.1
  have e1 : ∀ y, Cert.ReferenceIdeal.Gen.rI m' c y = _ := congrFun hs.2.1
  refine ⟨fun y => ?_, fun a => ?_, fun a b => ?_⟩
  · rw [e0]; exact hx y
  · rw [e1]; exact hp a
  · rw [e1, e1]; exact hd a b

/-- The first results agree. -/
theorem eq5 : (Cert.ReferenceIdeal.Gen.dats m' 0 c).arrAt 5 Cert.ReferenceIdeal.cfg0.N = Cert.KernelIdeal.Value.G5 m c := by
  obtain ⟨hx, hp, hd⟩ := inputs m m' c hs h
  funext y
  obtain ⟨r, n, rfl⟩ : ∃ (r : Fin 16384) (n : Fin 896), y = ix2 r n := ⟨y 0, y 1, eq_ix2 y⟩
  refine (Cert.ReferenceIdeal.Gen.ref5 m' c hx hp hd r n).trans ((Cert.KernelIdeal.Gen.ker5 m c r n).trans ?_).symm
  have e2 : Cert.ReferenceIdeal.Gen.rO m' c = Cert.KernelIdeal.Gen.inO m c := hs.2.2.1
  have e3 : Cert.ReferenceIdeal.Gen.rC m' c = Cert.KernelIdeal.Gen.inC m c := hs.2.2.2.1
  have e4 : Cert.ReferenceIdeal.Gen.rS m' c = Cert.KernelIdeal.Gen.inS m c := hs.2.2.2.2
  rw [chans_eq m m' c hs, tok_eq m m' c hs, e2, e3, e4]

/-- The second results agree. -/
theorem eq6 : (Cert.ReferenceIdeal.Gen.dats m' 0 c).arrAt 6 Cert.ReferenceIdeal.cfg0.N = Cert.KernelIdeal.Value.G6 m c := by
  obtain ⟨hx, hp, hd⟩ := inputs m m' c hs h
  funext y
  obtain ⟨r, n, rfl⟩ : ∃ (r : Fin 16384) (n : Fin 3584), y = ix2 r n := ⟨y 0, y 1, eq_ix2 y⟩
  refine (Cert.ReferenceIdeal.Gen.ref6 m' c hx hp r n).trans ((Cert.KernelIdeal.Gen.ker6 m c r n).trans ?_).symm
  rw [chans_eq m m' c hs, tok_eq m m' c hs]

/-- The third results agree. -/
theorem eq7 : (Cert.ReferenceIdeal.Gen.dats m' 0 c).arrAt 7 Cert.ReferenceIdeal.cfg0.N = Cert.KernelIdeal.Value.G7 m c := by
  obtain ⟨hx, hp, hd⟩ := inputs m m' c hs h
  funext y
  obtain ⟨r, n, rfl⟩ : ∃ (r : Fin 16384) (n : Fin 28), y = ix2 r n := ⟨y 0, y 1, eq_ix2 y⟩
  refine (Cert.ReferenceIdeal.Gen.ref7 m' c hx hp r n).trans ((Cert.KernelIdeal.Gen.ker7 m c r n).trans ?_).symm
  rw [chans_eq m m' c hs, tok_eq m m' c hs]

end Cert.Tie

end
-- ==== Proof.lean ====
/- The certificate's theorem: the kernel and the reference run, leave their inputs as they were and every counter at zero,
   and over the extended reals, on the inputs the precondition admits, they leave the same three results. -/
module

public import proofs.«01_k».proof.Defs
public import proofs.«01_k».proof.Proof.Tie
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Frame
public import proofs.«01_k».proof.Proof.Gen.KernelIdeal.Value
public import proofs.«01_k».proof.Proof.Gen.ReferenceIdeal.Value

@[expose] public section

noncomputable section

namespace Cert.Proof

open Idealize.ShloMosaic Idealize.SL.Sem

/-- The kernel and the reference leave the same products, codes and scales. -/
theorem algebraic : Cert.algebraic_KernelIdeal_ReferenceIdeal_pre_inputs_ok := by
  intro m g m' g' h hs
  refine ⟨fun c => Cert.KernelIdeal.Value.G5 m c, fun c => Cert.KernelIdeal.Value.G6 m c, fun c => Cert.KernelIdeal.Value.G7 m c,
    Cert.KernelIdeal.Value.run m g, ?_⟩
  refine (θ_run _ _ _).mono (fun r hr c => ?_) (Cert.ReferenceIdeal.Value.run_blocks m' g')
  obtain ⟨h5, h6, h7, ha⟩ := hr c
  exact ⟨h5.trans (Cert.Tie.eq5 m m' c (hs c) h), h6.trans (Cert.Tie.eq6 m m' c (hs c) h), h7.trans (Cert.Tie.eq7 m m' c (hs c) h), ha⟩

/-- The certificate. -/
theorem claim : Cert.Claim :=
  ⟨Cert.Kernel.Gen.facts, Cert.KernelIdeal.Gen.facts, Cert.ReferenceIdeal.Gen.facts, Cert.Pre_inputs_ok.facts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, algebraic⟩

end Cert.Proof

end
